-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "scale2" .f32 0x3E0293EE#32 (((11863283 / 134217728) * (Real.log 2)⁻¹ : ℝ) : EReal)
  ∧ IdealRules.named_const.Statement Cert.Kernel3Ideal.κ "lowest" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_finite.lean ====
abbrev S4x8x4096x128 : Shape := ⟨4, ![4, 8, 4096, 128]⟩
abbrev S4x2x4096x128 : Shape := ⟨4, ![4, 2, 4096, 128]⟩
abbrev S4x2x256x128 : Shape := ⟨4, ![4, 2, 256, 128]⟩
abbrev S_ : Shape := ⟨0, ![]⟩

class Facts : Prop where
  bcast_S_S4x8x4096x128 : S_.BroadcastsInDim S4x8x4096x128 (![] : Fin 0 → Fin S4x8x4096x128.rank)
  bcast_S_S4x2x4096x128 : S_.BroadcastsInDim S4x2x4096x128 (![] : Fin 0 → Fin S4x2x4096x128.rank)
  bcast_S_S4x2x256x128 : S_.BroadcastsInDim S4x2x256x128 (![] : Fin 0 → Fin S4x2x256x128.rank)

variable [Facts]

def fn {F : FTy → Type} [FloatOps F] (main_arg0 : FVec F S4x8x4096x128 .f32) (main_arg1 : FVec F S4x2x4096x128 .f32) (main_arg2 : FVec F S4x2x4096x128 .f32) (main_arg3 : FVec F S4x2x256x128 .f32) (main_arg4 : FVec F S4x2x256x128 .f32) : IVec S4x8x4096x128 1 × IVec S4x2x4096x128 1 × IVec S4x2x256x128 1 :=
  let main_v0 : FVec F S4x8x4096x128 .f32 := Host.absf main_arg0
  let main_cst : FVec F S_ .f32 := constant S_ .f32 0x7F800000#32
  let main_v1 : FVec F S4x8x4096x128 .f32 := broadcastInDim S4x8x4096x128 ![] bcast_S_S4x8x4096x128 main_cst
  let main_v2 : IVec S4x8x4096x128 1 := cmpf .olt main_v0 main_v1
  let main_v3 : FVec F S4x2x4096x128 .f32 := Host.absf main_arg1
  let main_cst_0 : FVec F S_ .f32 := constant S_ .f32 0x7F800000#32
  let main_v4 : FVec F S4x2x4096x128 .f32 := broadcastInDim S4x2x4096x128 ![] bcast_S_S4x2x4096x128 main_cst_0
  let main_v5 : IVec S4x2x4096x128 1 := cmpf .olt main_v3 main_v4
  let main_v6 : FVec F S4x2x256x128 .f32 := Host.absf main_arg3
  let main_cst_1 : FVec F S_ .f32 := constant S_ .f32 0x7F800000#32
  let main_v7 : FVec F S4x2x256x128 .f32 := broadcastInDim S4x2x256x128 ![] bcast_S_S4x2x256x128 main_cst_1
  let main_v8 : IVec S4x2x256x128 1 := cmpf .olt main_v6 main_v7
  (main_v2, main_v5, main_v8)
-- ==== Pre_routed.lean ====
abbrev S36864x2048 : Shape := ⟨2, ![36864, 2048]⟩
abbrev S8x2048x5632 : Shape := ⟨3, ![8, 2048, 5632]⟩
abbrev S8x5632x2048 : Shape := ⟨3, ![8, 5632, 2048]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : FVec F S36864x2048 .f32) (main_arg1 : FVec F S8x2048x5632 .bf16) (main_arg2 : FVec F S8x2048x5632 .bf16) (main_arg3 : FVec F S8x5632x2048 .bf16) (main_arg4 : IVec S72 32) (main_arg5 : IVec S1 32) : IVec S72 1 × IVec S72 1 × IVec S1 1 × IVec S1 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_c_1 : IVec S_ 32 := constantI S_ 32 1#32
  let main_v4 : IVec S1 32 := broadcastInDim S1 ![] bcast_S_S1 main_c_1
  let main_v5 : IVec S1 1 := cmpi .sge main_arg5 main_v4
  let main_c_2 : IVec S_ 32 := constantI S_ 32 72#32
  let main_v6 : IVec S1 32 := broadcastInDim S1 ![] bcast_S_S1 main_c_2
  let main_v7 : IVec S1 1 := cmpi .sle main_arg5 main_v6
  (main_v1, main_v3, main_v5, main_v7)
-- ==== Kernel.lean ====
abbrev S36864x2048 : Shape := ⟨2, ![36864, 2048]⟩
abbrev S8x2048x5632 : Shape := ⟨3, ![8, 2048, 5632]⟩
abbrev S8x5632x2048 : Shape := ⟨3, ![8, 5632, 2048]⟩
abbrev S72 : Shape := ⟨1, ![72]⟩
abbrev S1 : Shape := ⟨1, ![1]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S36864x2048, .f32⟩
  | .hbm, ⟨1, _⟩ => ⟨S8x2048x5632, .bf16⟩
  | .hbm, ⟨2, _⟩ => ⟨S8x2048x5632, .bf16⟩
  | .hbm, ⟨3, _⟩ => ⟨S8x5632x2048, .bf16⟩
  | .hbm, ⟨4, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c10_i32_23 : BitVec 32 := 10#32
  let v36 : BitVec 1 := Scalar.cmpi .eq arg1 c10_i32_23
  let v37 : BitVec 32 := Scalar.extui v36
  let c0_i32_24 : BitVec 32 := 0#32
  let v38 : BitVec 1 := Scalar.cmpi .ne v37 c0_i32_24
  v38

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c10_i32 : BitVec 32 := 10#32
  let v6 : BitVec 1 := Scalar.cmpi .eq arg1 c10_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x2048 : Shape := ⟨2, ![36864, 2048]⟩
abbrev S8x2048x5632 : Shape := ⟨3, ![8, 2048, 5632]⟩
abbrev S8x5632x2048 : Shape := ⟨3, ![8, 5632, 2048]⟩
abbrev S72 : Shape := ⟨1, ![72]⟩
abbrev S1 : Shape := ⟨1, ![1]⟩
abbrev S36864 : Shape := ⟨1, ![36864]⟩
abbrev S_ : Shape := ⟨0, ![]⟩
abbrev S36864x1 : Shape := ⟨2, ![36864, 1]⟩
abbrev S1x2048x5632 : Shape := ⟨3, ![1, 2048, 5632]⟩
abbrev S2048x5632 : Shape := ⟨2, ![2048, 5632]⟩
abbrev S36864x5632 : Shape := ⟨2, ![36864, 5632]⟩
abbrev S1x5632x2048 : Shape := ⟨3, ![1, 5632, 2048]⟩
abbrev S5632x2048 : Shape := ⟨2, ![5632, 2048]⟩

abbrev nBuf : Space → Nat
  | .hbm => 282
  | .vmem => 0
  | .smem => 0
  | _ => 0

abbrev hbmTy0_0 (i : Nat) : BufTy := match i % 128 with
  | 0 => ⟨S36864x2048, .f32⟩
  | 1 => ⟨S8x2048x5632, .bf16⟩
  | 2 => ⟨S8x2048x5632, .bf16⟩
  | 3 => ⟨S8x5632x2048, .bf16⟩
  | 4 => ⟨S72, .i32⟩
  | 5 => ⟨S1, .i32⟩
  | 6 => ⟨S36864, .i32⟩
  | 7 => ⟨S_, .i32⟩
  | 8 => ⟨S_, .i32⟩
  | 9 => ⟨S36864, .i32⟩
  | 10 => ⟨S36864, .i32⟩
  | 11 => ⟨S36864, .i32⟩
  | 12 => ⟨S_, .i32⟩
  | 13 => ⟨S36864, .i32⟩
  | 14 => ⟨S36864, .i1⟩
  | 15 => ⟨S36864, .i32⟩
  | 16 => ⟨S36864, .i32⟩
  | 17 => ⟨S_, .i32⟩
  | 18 => ⟨S36864, .i32⟩
  | 19 => ⟨S36864, .i1⟩
  | 20 => ⟨S36864, .i1⟩
  | 21 => ⟨S_, .i32⟩
  | 22 => ⟨S36864, .i32⟩
  | 23 => ⟨S36864, .i32⟩
  | 24 => ⟨S36864, .i32⟩
  | 25 => ⟨S_, .i32⟩
  | 26 => ⟨S36864, .i32⟩
  | 27 => ⟨S36864, .i1⟩
  | 28 => ⟨S_, .i32⟩
  | 29 => ⟨S36864, .i32⟩
  | 30 => ⟨S36864, .i32⟩
  | 31 => ⟨S36864, .i32⟩
  | 32 => ⟨S36864x1, .i32⟩
  | 33 => ⟨S36864, .i32⟩
  | 34 => ⟨S_, .i32⟩
  | 35 => ⟨S36864, .i32⟩
  | 36 => ⟨S36864, .i1⟩
  | 37 => ⟨S8x2048x5632, .f32⟩
  | 38 => ⟨S8x2048x5632, .f32⟩
  | 39 => ⟨S8x5632x2048, .f32⟩
  | 40 => ⟨S_, .f32⟩
  | 41 => ⟨S36864x2048, .f32⟩
  | 42 => ⟨S1x2048x5632, .f32⟩
  | 43 => ⟨S2048x5632, .f32⟩
  | 44 => ⟨S36864x5632, .f32⟩
  | 45 => ⟨S36864x5632, .f32⟩
  | 46 => ⟨S36864x5632, .f32⟩
  | 47 => ⟨S_, .f32⟩
  | 48 => ⟨S36864x5632, .f32⟩
  | 49 => ⟨S36864x5632, .f32⟩
  | 50 => ⟨S_, .f32⟩
  | 51 => ⟨S36864x5632, .f32⟩
  | 52 => ⟨S36864x5632, .f32⟩
  | 53 => ⟨S36864x5632, .f32⟩
  | 54 => ⟨S1x2048x5632, .f32⟩
  | 55 => ⟨S2048x5632, .f32⟩
  | 56 => ⟨S36864x5632, .f32⟩
  | 57 => ⟨S36864x5632, .f32⟩
  | 58 => ⟨S1x5632x2048, .f32⟩
  | 59 => ⟨S5632x2048, .f32⟩
  | 60 => ⟨S36864x2048, .f32⟩
  | 61 => ⟨S_, .i32⟩
  | 62 => ⟨S36864, .i32⟩
  | 63 => ⟨S36864, .i1⟩
  | 64 => ⟨S36864, .i1⟩
  | 65 => ⟨S36864x1, .i1⟩
  | 66 => ⟨S_, .f32⟩
  | 67 => ⟨S_, .f32⟩
  | 68 => ⟨S36864x2048, .i1⟩
  | 69 => ⟨S36864x2048, .f32⟩
  | 70 => ⟨S36864x2048, .f32⟩
  | 71 => ⟨S36864x2048, .f32⟩
  | 72 => ⟨S1x2048x5632, .f32⟩
  | 73 => ⟨S2048x5632, .f32⟩
  | 74 => ⟨S36864x5632, .f32⟩
  | 75 => ⟨S36864x5632, .f32⟩
  | 76 => ⟨S36864x5632, .f32⟩
  | 77 => ⟨S_, .f32⟩
  | 78 => ⟨S36864x5632, .f32⟩
  | 79 => ⟨S36864x5632, .f32⟩
  | 80 => ⟨S_, .f32⟩
  | 81 => ⟨S36864x5632, .f32⟩
  | 82 => ⟨S36864x5632, .f32⟩
  | 83 => ⟨S36864x5632, .f32⟩
  | 84 => ⟨S1x2048x5632, .f32⟩
  | 85 => ⟨S2048x5632, .f32⟩
  | 86 => ⟨S36864x5632, .f32⟩
  | 87 => ⟨S36864x5632, .f32⟩
  | 88 => ⟨S1x5632x2048, .f32⟩
  | 89 => ⟨S5632x2048, .f32⟩
  | 90 => ⟨S36864x2048, .f32⟩
  | 91 => ⟨S_, .i32⟩
  | 92 => ⟨S36864, .i32⟩
  | 93 => ⟨S36864, .i1⟩
  | 94 => ⟨S36864, .i1⟩
  | 95 => ⟨S36864x1, .i1⟩
  | 96 => ⟨S_, .f32⟩
  | 97 => ⟨S_, .f32⟩
  | 98 => ⟨S36864x2048, .i1⟩
  | 99 => ⟨S36864x2048, .f32⟩
  | 100 => ⟨S36864x2048, .f32⟩
  | 101 => ⟨S36864x2048, .f32⟩
  | 102 => ⟨S1x2048x5632, .f32⟩
  | 103 => ⟨S2048x5632, .f32⟩
  | 104 => ⟨S36864x5632, .f32⟩
  | 105 => ⟨S36864x5632, .f32⟩
  | 106 => ⟨S36864x5632, .f32⟩
  | 107 => ⟨S_, .f32⟩
  | 108 => ⟨S36864x5632, .f32⟩
  | 109 => ⟨S36864x5632, .f32⟩
  | 110 => ⟨S_, .f32⟩
  | 111 => ⟨S36864x5632, .f32⟩
  | 112 => ⟨S36864x5632, .f32⟩
  | 113 => ⟨S36864x5632, .f32⟩
  | 114 => ⟨S1x2048x5632, .f32⟩
  | 115 => ⟨S2048x5632, .f32⟩
  | 116 => ⟨S36864x5632, .f32⟩
  | 117 => ⟨S36864x5632, .f32⟩
  | 118 => ⟨S1x5632x2048, .f32⟩
  | 119 => ⟨S5632x2048, .f32⟩
  | 120 => ⟨S36864x2048, .f32⟩
  | 121 => ⟨S_, .i32⟩
  | 122 => ⟨S36864, .i32⟩
  | 123 => ⟨S36864, .i1⟩
  | 124 => ⟨S36864, .i1⟩
  | 125 => ⟨S36864x1, .i1⟩
  | 126 => ⟨S_, .f32⟩
  | 127 => ⟨S_, .f32⟩
  | _ => ⟨S36864x2048, .f32⟩

abbrev hbmTy0_1 (i : Nat) : BufTy := match i % 128 with
  | 0 => ⟨S36864x2048, .i1⟩
  | 1 => ⟨S36864x2048, .f32⟩
  | 2 => ⟨S36864x2048, .f32⟩
  | 3 => ⟨S36864x2048, .f32⟩
  | 4 => ⟨S1x2048x5632, .f32⟩
  | 5 => ⟨S2048x5632, .f32⟩
  | 6 => ⟨S36864x5632, .f32⟩
  | 7 => ⟨S36864x5632, .f32⟩
  | 8 => ⟨S36864x5632, .f32⟩
  | 9 => ⟨S_, .f32⟩
  | 10 => ⟨S36864x5632, .f32⟩
  | 11 => ⟨S36864x5632, .f32⟩
  | 12 => ⟨S_, .f32⟩
  | 13 => ⟨S36864x5632, .f32⟩
  | 14 => ⟨S36864x5632, .f32⟩
  | 15 => ⟨S36864x5632, .f32⟩
  | 16 => ⟨S1x2048x5632, .f32⟩
  | 17 => ⟨S2048x5632, .f32⟩
  | 18 => ⟨S36864x5632, .f32⟩
  | 19 => ⟨S36864x5632, .f32⟩
  | 20 => ⟨S1x5632x2048, .f32⟩
  | 21 => ⟨S5632x2048, .f32⟩
  | 22 => ⟨S36864x2048, .f32⟩
  | 23 => ⟨S_, .i32⟩
  | 24 => ⟨S36864, .i32⟩
  | 25 => ⟨S36864, .i1⟩
  | 26 => ⟨S36864, .i1⟩
  | 27 => ⟨S36864x1, .i1⟩
  | 28 => ⟨S_, .f32⟩
  | 29 => ⟨S_, .f32⟩
  | 30 => ⟨S36864x2048, .i1⟩
  | 31 => ⟨S36864x2048, .f32⟩
  | 32 => ⟨S36864x2048, .f32⟩
  | 33 => ⟨S36864x2048, .f32⟩
  | 34 => ⟨S1x2048x5632, .f32⟩
  | 35 => ⟨S2048x5632, .f32⟩
  | 36 => ⟨S36864x5632, .f32⟩
  | 37 => ⟨S36864x5632, .f32⟩
  | 38 => ⟨S36864x5632, .f32⟩
  | 39 => ⟨S_, .f32⟩
  | 40 => ⟨S36864x5632, .f32⟩
  | 41 => ⟨S36864x5632, .f32⟩
  | 42 => ⟨S_, .f32⟩
  | 43 => ⟨S36864x5632, .f32⟩
  | 44 => ⟨S36864x5632, .f32⟩
  | 45 => ⟨S36864x5632, .f32⟩
  | 46 => ⟨S1x2048x5632, .f32⟩
  | 47 => ⟨S2048x5632, .f32⟩
  | 48 => ⟨S36864x5632, .f32⟩
  | 49 => ⟨S36864x5632, .f32⟩
  | 50 => ⟨S1x5632x2048, .f32⟩
  | 51 => ⟨S5632x2048, .f32⟩
  | 52 => ⟨S36864x2048, .f32⟩
  | 53 => ⟨S_, .i32⟩
  | 54 => ⟨S36864, .i32⟩
  | 55 => ⟨S36864, .i1⟩
  | 56 => ⟨S36864, .i1⟩
  | 57 => ⟨S36864x1, .i1⟩
  | 58 => ⟨S_, .f32⟩
  | 59 => ⟨S_, .f32⟩
  | 60 => ⟨S36864x2048, .i1⟩
  | 61 => ⟨S36864x2048, .f32⟩
  | 62 => ⟨S36864x2048, .f32⟩
  | 63 => ⟨S36864x2048, .f32⟩
  | 64 => ⟨S1x2048x5632, .f32⟩
  | 65 => ⟨S2048x5632, .f32⟩
  | 66 => ⟨S36864x5632, .f32⟩
  | 67 => ⟨S36864x5632, .f32⟩
  | 68 => ⟨S36864x5632, .f32⟩
  | 69 => ⟨S_, .f32⟩
  | 70 => ⟨S36864x5632, .f32⟩
  | 71 => ⟨S36864x5632, .f32⟩
  | 72 => ⟨S_, .f32⟩
  | 73 => ⟨S36864x5632, .f32⟩
  | 74 => ⟨S36864x5632, .f32⟩
  | 75 => ⟨S36864x5632, .f32⟩
  | 76 => ⟨S1x2048x5632, .f32⟩
  | 77 => ⟨S2048x5632, .f32⟩
  | 78 => ⟨S36864x5632, .f32⟩
  | 79 => ⟨S36864x5632, .f32⟩
  | 80 => ⟨S1x5632x2048, .f32⟩
  | 81 => ⟨S5632x2048, .f32⟩
  | 82 => ⟨S36864x2048, .f32⟩
  | 83 => ⟨S_, .i32⟩
  | 84 => ⟨S36864, .i32⟩
  | 85 => ⟨S36864, .i1⟩
  | 86 => ⟨S36864, .i1⟩
  | 87 => ⟨S36864x1, .i1⟩
  | 88 => ⟨S_, .f32⟩
  | 89 => ⟨S_, .f32⟩
  | 90 => ⟨S36864x2048, .i1⟩
  | 91 => ⟨S36864x2048, .f32⟩
  | 92 => ⟨S36864x2048, .f32⟩
  | 93 => ⟨S36864x2048, .f32⟩
  | 94 => ⟨S1x2048x5632, .f32⟩
  | 95 => ⟨S2048x5632, .f32⟩
  | 96 => ⟨S36864x5632, .f32⟩
  | 97 => ⟨S36864x5632, .f32⟩
  | 98 => ⟨S36864x5632, .f32⟩
  | 99 => ⟨S_, .f32⟩
  | 100 => ⟨S36864x5632, .f32⟩
  | 101 => ⟨S36864x5632, .f32⟩
  | 102 => ⟨S_, .f32⟩
  | 103 => ⟨S36864x5632, .f32⟩
  | 104 => ⟨S36864x5632, .f32⟩
  | 105 => ⟨S36864x5632, .f32⟩
  | 106 => ⟨S1x2048x5632, .f32⟩
  | 107 => ⟨S2048x5632, .f32⟩
  | 108 => ⟨S36864x5632, .f32⟩
  | 109 => ⟨S36864x5632, .f32⟩
  | 110 => ⟨S1x5632x2048, .f32⟩
  | 111 => ⟨S5632x2048, .f32⟩
  | 112 => ⟨S36864x2048, .f32⟩
  | 113 => ⟨S_, .i32⟩
  | 114 => ⟨S36864, .i32⟩
  | 115 => ⟨S36864, .i1⟩
  | 116 => ⟨S36864, .i1⟩
  | 117 => ⟨S36864x1, .i1⟩
  | 118 => ⟨S_, .f32⟩
  | 119 => ⟨S_, .f32⟩
  | 120 => ⟨S36864x2048, .i1⟩
  | 121 => ⟨S36864x2048, .f32⟩
  | 122 => ⟨S36864x2048, .f32⟩
  | 123 => ⟨S36864x2048, .f32⟩
  | 124 => ⟨S1x2048x5632, .f32⟩
  | 125 => ⟨S2048x5632, .f32⟩
  | 126 => ⟨S36864x5632, .f32⟩
  | 127 => ⟨S36864x5632, .f32⟩
  | _ => ⟨S36864x2048, .f32⟩

abbrev hbmTy0_2 (i : Nat) : BufTy := match i % 128 with
  | 0 => ⟨S36864x5632, .f32⟩
  | 1 => ⟨S_, .f32⟩
  | 2 => ⟨S36864x5632, .f32⟩
  | 3 => ⟨S36864x5632, .f32⟩
  | 4 => ⟨S_, .f32⟩
  | 5 => ⟨S36864x5632, .f32⟩
  | 6 => ⟨S36864x5632, .f32⟩
  | 7 => ⟨S36864x5632, .f32⟩
  | 8 => ⟨S1x2048x5632, .f32⟩
  | 9 => ⟨S2048x5632, .f32⟩
  | 10 => ⟨S36864x5632, .f32⟩
  | 11 => ⟨S36864x5632, .f32⟩
  | 12 => ⟨S1x5632x2048, .f32⟩
  | 13 => ⟨S5632x2048, .f32⟩
  | 14 => ⟨S36864x2048, .f32⟩
  | 15 => ⟨S_, .i32⟩
  | 16 => ⟨S36864, .i32⟩
  | 17 => ⟨S36864, .i1⟩
  | 18 => ⟨S36864, .i1⟩
  | 19 => ⟨S36864x1, .i1⟩
  | 20 => ⟨S_, .f32⟩
  | 21 => ⟨S_, .f32⟩
  | 22 => ⟨S36864x2048, .i1⟩
  | 23 => ⟨S36864x2048, .f32⟩
  | 24 => ⟨S36864x2048, .f32⟩
  | 25 => ⟨S36864x2048, .f32⟩
  | _ => ⟨S36864x2048, .f32⟩

abbrev hbmTy (i : Nat) : BufTy := match i / 128 with
  | 0 => hbmTy0_0 i
  | 1 => hbmTy0_1 i
  | 2 => hbmTy0_2 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_4 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_5 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_call5_v0 : Ref sig .tc := ⟨.hbm, 105, rfl⟩
abbrev main_call5_v1 : Ref sig .tc := ⟨.hbm, 106, rfl⟩
abbrev main_call5_cst : Ref sig .tc := ⟨.hbm, 107, rfl⟩
abbrev main_call5_v2 : Ref sig .tc := ⟨.hbm, 108, rfl⟩
abbrev main_call5_v3 : Ref sig .tc := ⟨.hbm, 109, rfl⟩
abbrev main_call5_cst_0 : Ref sig .tc := ⟨.hbm, 110, rfl⟩
abbrev main_call5_v4 : Ref sig .tc := ⟨.hbm, 111, rfl⟩
abbrev main_call5_v5 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_c_6 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_7 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_call7_v0 : Ref sig .tc := ⟨.hbm, 135, rfl⟩
abbrev main_call7_v1 : Ref sig .tc := ⟨.hbm, 136, rfl⟩
abbrev main_call7_cst : Ref sig .tc := ⟨.hbm, 137, rfl⟩
abbrev main_call7_v2 : Ref sig .tc := ⟨.hbm, 138, rfl⟩
abbrev main_call7_v3 : Ref sig .tc := ⟨.hbm, 139, rfl⟩
abbrev main_call7_cst_0 : Ref sig .tc := ⟨.hbm, 140, rfl⟩
abbrev main_call7_v4 : Ref sig .tc := ⟨.hbm, 141, rfl⟩
abbrev main_call7_v5 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_c_8 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_9 : Ref sig .tc := ⟨.hbm, 156, rfl⟩
abbrev main_call8_v0 : Ref sig .tc := ⟨.hbm, 157, rfl⟩
abbrev main_call8_v1 : Ref sig .tc := ⟨.hbm, 158, rfl⟩
abbrev main_call8_v2 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_call9_v0 : Ref sig .tc := ⟨.hbm, 165, rfl⟩
abbrev main_call9_v1 : Ref sig .tc := ⟨.hbm, 166, rfl⟩
abbrev main_call9_cst : Ref sig .tc := ⟨.hbm, 167, rfl⟩
abbrev main_call9_v2 : Ref sig .tc := ⟨.hbm, 168, rfl⟩
abbrev main_call9_v3 : Ref sig .tc := ⟨.hbm, 169, rfl⟩
abbrev main_call9_cst_0 : Ref sig .tc := ⟨.hbm, 170, rfl⟩
abbrev main_call9_v4 : Ref sig .tc := ⟨.hbm, 171, rfl⟩
abbrev main_call9_v5 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_c_10 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_cst_11 : Ref sig .tc := ⟨.hbm, 186, rfl⟩
abbrev main_call10_v0 : Ref sig .tc := ⟨.hbm, 187, rfl⟩
abbrev main_call10_v1 : Ref sig .tc := ⟨.hbm, 188, rfl⟩
abbrev main_call10_v2 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_call11_v0 : Ref sig .tc := ⟨.hbm, 195, rfl⟩
abbrev main_call11_v1 : Ref sig .tc := ⟨.hbm, 196, rfl⟩
abbrev main_call11_cst : Ref sig .tc := ⟨.hbm, 197, rfl⟩
abbrev main_call11_v2 : Ref sig .tc := ⟨.hbm, 198, rfl⟩
abbrev main_call11_v3 : Ref sig .tc := ⟨.hbm, 199, rfl⟩
abbrev main_call11_cst_0 : Ref sig .tc := ⟨.hbm, 200, rfl⟩
abbrev main_call11_v4 : Ref sig .tc := ⟨.hbm, 201, rfl⟩
abbrev main_call11_v5 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_c_12 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_cst_13 : Ref sig .tc := ⟨.hbm, 216, rfl⟩
abbrev main_call12_v0 : Ref sig .tc := ⟨.hbm, 217, rfl⟩
abbrev main_call12_v1 : Ref sig .tc := ⟨.hbm, 218, rfl⟩
abbrev main_call12_v2 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_call13_v0 : Ref sig .tc := ⟨.hbm, 225, rfl⟩
abbrev main_call13_v1 : Ref sig .tc := ⟨.hbm, 226, rfl⟩
abbrev main_call13_cst : Ref sig .tc := ⟨.hbm, 227, rfl⟩
abbrev main_call13_v2 : Ref sig .tc := ⟨.hbm, 228, rfl⟩
abbrev main_call13_v3 : Ref sig .tc := ⟨.hbm, 229, rfl⟩
abbrev main_call13_cst_0 : Ref sig .tc := ⟨.hbm, 230, rfl⟩
abbrev main_call13_v4 : Ref sig .tc := ⟨.hbm, 231, rfl⟩
abbrev main_call13_v5 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_c_14 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_cst_15 : Ref sig .tc := ⟨.hbm, 246, rfl⟩
abbrev main_call14_v0 : Ref sig .tc := ⟨.hbm, 247, rfl⟩
abbrev main_call14_v1 : Ref sig .tc := ⟨.hbm, 248, rfl⟩
abbrev main_call14_v2 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_call15_v0 : Ref sig .tc := ⟨.hbm, 255, rfl⟩
abbrev main_call15_v1 : Ref sig .tc := ⟨.hbm, 256, rfl⟩
abbrev main_call15_cst : Ref sig .tc := ⟨.hbm, 257, rfl⟩
abbrev main_call15_v2 : Ref sig .tc := ⟨.hbm, 258, rfl⟩
abbrev main_call15_v3 : Ref sig .tc := ⟨.hbm, 259, rfl⟩
abbrev main_call15_cst_0 : Ref sig .tc := ⟨.hbm, 260, rfl⟩
abbrev main_call15_v4 : Ref sig .tc := ⟨.hbm, 261, rfl⟩
abbrev main_call15_v5 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_c_16 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_cst_17 : Ref sig .tc := ⟨.hbm, 276, rfl⟩
abbrev main_call16_v0 : Ref sig .tc := ⟨.hbm, 277, rfl⟩
abbrev main_call16_v1 : Ref sig .tc := ⟨.hbm, 278, rfl⟩
abbrev main_call16_v2 : Ref sig .tc := ⟨.hbm, 279, rfl⟩
abbrev main_v150 : Ref sig .tc := ⟨.hbm, 280, rfl⟩
abbrev main_v151 : Ref sig .tc := ⟨.hbm, 281, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x5632 : Shape := ⟨2, ![2048, 5632]⟩
abbrev S5632x2048 : Shape := ⟨2, ![5632, 2048]⟩
abbrev S1x2048 : Shape := ⟨2, ![1, 2048]⟩
abbrev S4x1x2048 : Shape := ⟨3, ![4, 1, 2048]⟩
abbrev S1x512x2048 : Shape := ⟨3, ![1, 512, 2048]⟩
abbrev S2048x512 : Shape := ⟨2, ![2048, 512]⟩
abbrev S512x2048 : Shape := ⟨2, ![512, 2048]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4x4096x2048, .f32⟩
  | .hbm, ⟨5, _⟩ => ⟨S1x2048, .f32⟩
  | .hbm, ⟨6, _⟩ => ⟨S4x1x2048, .f32⟩
  | .hbm, ⟨7, _⟩ => ⟨S4x4096x2048, .bf16⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x512x2048, .f32⟩
  | .local _ .vmem, ⟨14, _⟩ => ⟨S1x512x2048, .f32⟩
  | .local _ .vmem, ⟨15, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v27 : BitVec 1 := Scalar.cmpi .eq arg2 c10_i32
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S4x4096x2048 : Shape := ⟨3, ![4, 4096, 2048]⟩
abbrev S2048x5632 : Shape := ⟨2, ![2048, 5632]⟩
abbrev S5632x2048 : Shape := ⟨2, ![5632, 2048]⟩
abbrev S1x2048 : Shape := ⟨2, ![1, 2048]⟩
abbrev S4x1x2048 : Shape := ⟨3, ![4, 1, 2048]⟩
abbrev S4x4096x5632 : Shape := ⟨3, ![4, 4096, 5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4x4096x2048, .f32⟩
  | .hbm, ⟨5, _⟩ => ⟨S1x2048, .f32⟩
  | .hbm, ⟨6, _⟩ => ⟨S4x1x2048, .f32⟩
  | .hbm, ⟨7, _⟩ => ⟨S4x4096x5632, .f32⟩
  | .hbm, ⟨8, _⟩ => ⟨S4x4096x5632, .f32⟩
  | .hbm, ⟨9, _⟩ => ⟨S4x4096x5632, .f32⟩
  | .hbm, ⟨10, _⟩ => ⟨S_, .f32⟩
  | .hbm, ⟨11, _⟩ => ⟨S4x4096x5632, .f32⟩
  | .hbm, ⟨12, _⟩ => ⟨S4x4096x5632, .f32⟩
  | .hbm, ⟨13, _⟩ => ⟨S_, .f32⟩
  | .hbm, ⟨14, _⟩ => ⟨S4x4096x5632, .f32⟩
  | .hbm, ⟨15, _⟩ => ⟨S4x4096x5632, .f32⟩
  | .hbm, ⟨16, _⟩ => ⟨S4x4096x5632, .f32⟩
  | .hbm, ⟨17, _⟩ => ⟨S4x4096x5632, .f32⟩
  | .hbm, ⟨18, _⟩ => ⟨S4x4096x5632, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel3.lean ====
abbrev S4x8x4096x128 : Shape := ⟨4, ![4, 8, 4096, 128]⟩
abbrev S4x2x4096x128 : Shape := ⟨4, ![4, 2, 4096, 128]⟩
abbrev S4x2x256x128 : Shape := ⟨4, ![4, 2, 256, 128]⟩
abbrev S_ : Shape := ⟨0, ![]⟩
abbrev S4x2x4096x256 : Shape := ⟨4, ![4, 2, 4096, 256]⟩
abbrev S4x2x256x256 : Shape := ⟨4, ![4, 2, 256, 256]⟩
abbrev S4x4096x1024 : Shape := ⟨3, ![4, 4096, 1024]⟩
abbrev S1x4x128x128 : Shape := ⟨4, ![1, 4, 128, 128]⟩
abbrev S1x1x4096x128 : Shape := ⟨4, ![1, 1, 4096, 128]⟩
abbrev S1x1x4096x256 : Shape := ⟨4, ![1, 1, 4096, 256]⟩
abbrev S1x1x256x128 : Shape := ⟨4, ![1, 1, 256, 128]⟩
abbrev S1x1x256x256 : Shape := ⟨4, ![1, 1, 256, 256]⟩
abbrev S1x128x512 : Shape := ⟨3, ![1, 128, 512]⟩
abbrev S4x128x128 : Shape := ⟨3, ![4, 128, 128]⟩
abbrev S512x128 : Shape := ⟨2, ![512, 128]⟩
abbrev S512x1 : Shape := ⟨2, ![512, 1]⟩
abbrev S512x256 : Shape := ⟨2, ![512, 256]⟩
abbrev S1x1x512x128 : Shape := ⟨4, ![1, 1, 512, 128]⟩
abbrev S1x1x512x256 : Shape := ⟨4, ![1, 1, 512, 256]⟩
abbrev S512x512 : Shape := ⟨2, ![512, 512]⟩
abbrev S512 : Shape := ⟨1, ![512]⟩
abbrev S256x128 : Shape := ⟨2, ![256, 128]⟩
abbrev S256x256 : Shape := ⟨2, ![256, 256]⟩
abbrev S128x128 : Shape := ⟨2, ![128, 128]⟩
abbrev S1x128x128 : Shape := ⟨3, ![1, 128, 128]⟩

abbrev nBuf : Space → Nat
  | .hbm => 32
  | .vmem => 12
  | .smem => 0
  | _ => 0

abbrev bufTy : (tb : Table) → Fin (tcTables nBuf tb) → BufTy
  | .hbm, ⟨0, _⟩ => ⟨S4x8x4096x128, .f32⟩
  | .hbm, ⟨1, _⟩ => ⟨S4x2x4096x128, .f32⟩
  | .hbm, ⟨2, _⟩ => ⟨S4x2x4096x128, .f32⟩
  | .hbm, ⟨3, _⟩ => ⟨S4x2x256x128, .f32⟩
  | .hbm, ⟨4, _⟩ => ⟨S4x2x256x128, .f32⟩
  | .hbm, ⟨5, _⟩ => ⟨S4x2x4096x128, .bf16⟩
  | .hbm, ⟨6, _⟩ => ⟨S4x2x256x128, .bf16⟩
  | .hbm, ⟨7, _⟩ => ⟨S4x2x4096x128, .i32⟩
  | .hbm, ⟨8, _⟩ => ⟨S_, .i32⟩
  | .hbm, ⟨9, _⟩ => ⟨S4x2x4096x128, .i32⟩
  | .hbm, ⟨10, _⟩ => ⟨S4x2x4096x128, .i1⟩
  | .hbm, ⟨11, _⟩ => ⟨S_, .f32⟩
  | .hbm, ⟨12, _⟩ => ⟨S_, .f32⟩
  | .hbm, ⟨13, _⟩ => ⟨S4x2x4096x128, .f32⟩
  | .hbm, ⟨14, _⟩ => ⟨S4x2x4096x128, .f32⟩
  | .hbm, ⟨15, _⟩ => ⟨S4x2x4096x128, .f32⟩
  | .hbm, ⟨16, _⟩ => ⟨S4x2x4096x128, .bf16⟩
  | .hbm, ⟨17, _⟩ => ⟨S4x2x4096x128, .bf16⟩
  | .hbm, ⟨18, _⟩ => ⟨S4x2x4096x256, .bf16⟩
  | .hbm, ⟨19, _⟩ => ⟨S4x2x256x128, .i32⟩
  | .hbm, ⟨20, _⟩ => ⟨S_, .i32⟩
  | .hbm, ⟨21, _⟩ => ⟨S4x2x256x128, .i32⟩
  | .hbm, ⟨22, _⟩ => ⟨S4x2x256x128, .i1⟩
  | .hbm, ⟨23, _⟩ => ⟨S_, .f32⟩
  | .hbm, ⟨24, _⟩ => ⟨S_, .f32⟩
  | .hbm, ⟨25, _⟩ => ⟨S4x2x256x128, .f32⟩
  | .hbm, ⟨26, _⟩ => ⟨S4x2x256x128, .f32⟩
  | .hbm, ⟨27, _⟩ => ⟨S4x2x256x128, .f32⟩
  | .hbm, ⟨28, _⟩ => ⟨S4x2x256x128, .bf16⟩
  | .hbm, ⟨29, _⟩ => ⟨S4x2x256x128, .bf16⟩
  | .hbm, ⟨30, _⟩ => ⟨S4x2x256x256, .bf16⟩
  | .hbm, ⟨31, _⟩ => ⟨S4x4096x1024, .bf16⟩
  | .local _ .vmem, ⟨0, _⟩ => ⟨S1x4x128x128, .f32⟩
  | .local _ .vmem, ⟨1, _⟩ => ⟨S1x4x128x128, .f32⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1x128x512, .bf16⟩
  | .local _ .vmem, ⟨11, _⟩ => ⟨S1x128x512, .bf16⟩
  | _, _ => ⟨S4x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
variable {F : FTy → Type} [FloatOps F] [Named F]
def κ : String → Option EReal := fun
  | "lowest" => some ⊥
  | "scale2" => some (((11863283 / 134217728) * (Real.log 2)⁻¹ : ℝ) : EReal)
  | _ => none
-- ==== Reference3Ideal.lean ====
abbrev S4x8x4096x128 : Shape := ⟨4, ![4, 8, 4096, 128]⟩
abbrev S4x2x4096x128 : Shape := ⟨4, ![4, 2, 4096, 128]⟩
abbrev S4x2x256x128 : Shape := ⟨4, ![4, 2, 256, 128]⟩
abbrev S4x2x4x4096x128 : Shape := ⟨5, ![4, 2, 4, 4096, 128]⟩
abbrev S4x4096x2x4x128 : Shape := ⟨5, ![4, 4096, 2, 4, 128]⟩
abbrev S4x2x4352x128 : Shape := ⟨4, ![4, 2, 4352, 128]⟩
abbrev S4x4352x2x128 : Shape := ⟨4, ![4, 4352, 2, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8x4096x128, .f32⟩
  | .hbm, ⟨1, _⟩ => ⟨S4x2x4096x128, .f32⟩
  | .hbm, ⟨2, _⟩ => ⟨S4x2x4096x128, .f32⟩
  | .hbm, ⟨3, _⟩ => ⟨S4x2x256x128, .f32⟩
  | .hbm, ⟨4, _⟩ => ⟨S4x2x256x128, .f32⟩
  | .hbm, ⟨5, _⟩ => ⟨S4x2x4x4096x128, .f32⟩
  | .hbm, ⟨6, _⟩ => ⟨S4x4096x2x4x128, .f32⟩
  | .hbm, ⟨7, _⟩ => ⟨S4x2x4352x128, .f32⟩
  | .hbm, ⟨8, _⟩ => ⟨S4x4352x2x128, .f32⟩
  | .hbm, ⟨9, _⟩ => ⟨S4x2x4352x128, .f32⟩
  | .hbm, ⟨10, _⟩ => ⟨S4x4352x2x128, .f32⟩
  | .hbm, ⟨11, _⟩ => ⟨S4x2x4352x4096x4, .f32⟩
  | .hbm, ⟨12, _⟩ => ⟨S4x2x4x4096x4352, .f32⟩
  | .hbm, ⟨13, _⟩ => ⟨S_, .f32⟩
  | .hbm, ⟨14, _⟩ => ⟨S4x2x4x4096x4352, .f32⟩
  | .hbm, ⟨15, _⟩ => ⟨S4x2x4x4096x4352, .f32⟩
  | .hbm, ⟨16, _⟩ => ⟨S_, .f32⟩
  | .hbm, ⟨17, _⟩ => ⟨S4x2x4x4096, .f32⟩
  | .hbm, ⟨18, _⟩ => ⟨S_, .f32⟩
  | .hbm, ⟨19, _⟩ => ⟨S4x2x4x4096, .f32⟩
  | .hbm, ⟨20, _⟩ => ⟨S4x2x4x4096, .f32⟩
  | .hbm, ⟨21, _⟩ => ⟨S4x2x4x4096x1, .f32⟩
  | .hbm, ⟨22, _⟩ => ⟨S4x2x4x4096x4352, .f32⟩
  | .hbm, ⟨23, _⟩ => ⟨S4x2x4x4096x4352, .f32⟩
  | .hbm, ⟨24, _⟩ => ⟨S4x2x4x4096x4352, .f32⟩
  | .hbm, ⟨25, _⟩ => ⟨S_, .f32⟩
  | .hbm, ⟨26, _⟩ => ⟨S4x2x4x4096, .f32⟩
  | .hbm, ⟨27, _⟩ => ⟨S4x2x4x4096x1, .f32⟩
  | .hbm, ⟨28, _⟩ => ⟨S4x2x4x4096x4352, .f32⟩
  | .hbm, ⟨29, _⟩ => ⟨S4x2x4x4096x4352, .f32⟩
  | .hbm, ⟨30, _⟩ => ⟨S4x2x128x4x4096, .f32⟩
  | .hbm, ⟨31, _⟩ => ⟨S4x4096x2x4x128, .f32⟩
  | .hbm, ⟨32, _⟩ => ⟨S4x4096x1024, .f32⟩
  | .hbm, ⟨33, _⟩ => ⟨S4x4096x1024, .bf16⟩
  | _, _ => ⟨S4x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x1024 : Shape := ⟨3, ![4, 4096, 1024]⟩
abbrev S2048x2048 : Shape := ⟨2, ![2048, 2048]⟩
abbrev S4x4096x2048 : Shape := ⟨3, ![4, 4096, 2048]⟩
abbrev S1x2048 : Shape := ⟨2, ![1, 2048]⟩
abbrev S4x1x2048 : Shape := ⟨3, ![4, 1, 2048]⟩
abbrev S1x256x512 : Shape := ⟨3, ![1, 256, 512]⟩
abbrev S1x256x1024 : Shape := ⟨3, ![1, 256, 1024]⟩
abbrev S1x256x2048 : Shape := ⟨3, ![1, 256, 2048]⟩
abbrev S1x1x2048 : Shape := ⟨3, ![1, 1, 2048]⟩
abbrev S256x512 : Shape := ⟨2, ![256, 512]⟩
abbrev S512x2048 : Shape := ⟨2, ![512, 2048]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩

abbrev nBuf : Space → Nat
  | .hbm => 16
  | .vmem => 21
  | .smem => 0
  | _ => 0

abbrev bufTy : (tb : Table) → Fin (tcTables nBuf tb) → BufTy
  | .hbm, ⟨0, _⟩ => ⟨S4x4096x512, .f32⟩
  | .hbm, ⟨1, _⟩ => ⟨S4x4096x1024, .f32⟩
  | .hbm, ⟨2, _⟩ => ⟨S4x4096x512, .f32⟩
  | .hbm, ⟨3, _⟩ => ⟨S2048x2048, .f32⟩
  | .hbm, ⟨4, _⟩ => ⟨S4x4096x2048, .f32⟩
  | .hbm, ⟨5, _⟩ => ⟨S1x2048, .f32⟩
  | .hbm, ⟨6, _⟩ => ⟨S4x1x2048, .f32⟩
  | .hbm, ⟨7, _⟩ => ⟨S1x2048, .f32⟩
  | .hbm, ⟨8, _⟩ => ⟨S4x1x2048, .f32⟩
  | .hbm, ⟨9, _⟩ => ⟨S4x1x2048, .f32⟩
  | .hbm, ⟨10, _⟩ => ⟨S4x4096x512, .bf16⟩
  | .hbm, ⟨11, _⟩ => ⟨S4x4096x1024, .bf16⟩
  | .hbm, ⟨12, _⟩ => ⟨S4x4096x512, .bf16⟩
  | .hbm, ⟨13, _⟩ => ⟨S2048x2048, .bf16⟩
  | .hbm, ⟨14, _⟩ => ⟨S4x4096x2048, .f32⟩
  | .hbm, ⟨15, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S2048x2048, .bf16⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .bf16⟩
  | .local _ .vmem, ⟨20, _⟩ => ⟨S1x256x2048, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x4096x512 : Shape := ⟨3, ![4, 4096, 512]⟩
abbrev S4x4096x1024 : Shape := ⟨3, ![4, 4096, 1024]⟩
abbrev S2048x2048 : Shape := ⟨2, ![2048, 2048]⟩
abbrev S4x4096x2048 : Shape := ⟨3, ![4, 4096, 2048]⟩
abbrev S1x2048 : Shape := ⟨2, ![1, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x1024, .f32⟩
  | .hbm, ⟨2, _⟩ => ⟨S4x4096x512, .f32⟩
  | .hbm, ⟨3, _⟩ => ⟨S2048x2048, .f32⟩
  | .hbm, ⟨4, _⟩ => ⟨S4x4096x2048, .f32⟩
  | .hbm, ⟨5, _⟩ => ⟨S1x2048, .f32⟩
  | .hbm, ⟨6, _⟩ => ⟨S4x1x2048, .f32⟩
  | .hbm, ⟨7, _⟩ => ⟨S1x2048, .f32⟩
  | .hbm, ⟨8, _⟩ => ⟨S4x1x2048, .f32⟩
  | .hbm, ⟨9, _⟩ => ⟨S4x1x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x1x2048, .f32⟩
  | .hbm, ⟨49, _⟩ => ⟨S4x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.DenseStep.lean ====
/- The dense feed-forward kernel at a grid point: what one chunk of the hidden width adds to the carried sum, and the
   normalised result of the last chunk. -/
module

public import proofs.«01_k».proof.Proof.Gen.Kernel2Ideal.Frame
public import Idealize.ShloMosaic.Lib.Pointwise
public import Idealize.ShloMosaic.Lib.IdealHost
public import Idealize.ShloMosaic.Lib.Pipeline.ValueKit

@[expose] public section

set_option maxRecDepth 16384

noncomputable section

namespace Cert.Dense

open Idealize.ShloMosaic

/-- The gated linear unit: silu of the one product, times the other. -/
def gate (a g : EReal) : EReal := Ideal.div a (1 + Ideal.exp (-a)) * g

end Cert.Dense

namespace Cert.Kernel2Ideal.Dense

open Idealize.ShloMosaic Idealize.ShloMosaic.TcCoe Cert.Kernel2Ideal Cert.Kernel2Ideal.Gen Cert.Dense

/-- One number of a hidden chunk: a row of the input against a column of both weights, gated. -/
def act (h : Vec Ideal S1x512x2048 .bf16) (w1 w3 : Vec Ideal S2048x512 .bf16) (r : Fin 512) (k : Fin 512) : EReal :=
  gate (∑ d : Fin 2048, h (ix3 0 r d) * w1 (ix2 d k)) (∑ d : Fin 2048, h (ix3 0 r d) * w3 (ix2 d k))

/-- What a chunk adds to the carried sum. -/
def chunk (h : Vec Ideal S1x512x2048 .bf16) (w1 w3 : Vec Ideal S2048x512 .bf16) (w2 : Vec Ideal S512x2048 .bf16)
    (r : Fin 512) (e : Fin 2048) : EReal := ∑ k : Fin 512, act h w1 w3 r k * w2 (ix2 k e)

/-- The body's sum: the carried one, and the chunk. -/
theorem step_apply (s : Vec Ideal S512x2048 .f32) (x0 : Vec Ideal S1x512x2048 .bf16) (x1 x2 : Vec Ideal S2048x512 .bf16)
    (x3 : Vec Ideal S512x2048 .bf16) (r : Fin 512) (e : Fin 2048) :
    k0_pay2 s x0 x1 x2 x3 (ix2 r e) = s (ix2 r e) + chunk x0 x1 x2 x3 r e := by
  pointwise [k0_pay2, chunk, act, gate]
  simp only [zero_sub]

/-- The result of the last chunk: the residual, plus the gate times the normalised sum times its weight. -/
theorem pay2_apply (x : Vec Ideal S1x512x2048 .f32) (t : Vec Ideal S1x1x2048 .f32) (s : Vec Ideal S512x2048 .f32)
    (p : Vec Ideal S1x2048 .f32) (r : Fin 512) (e : Fin 2048) : k0_pay3 x t s p (ix3 0 r e)
      = x (ix3 0 r e) + t (ix3 0 0 e) * (s (ix2 r e) * Ideal.rsqrt (Ideal.div (∑ k : Fin 2048, s (ix2 r k) * s (ix2 r k))
        (Ideal.ofBits .f32 0x45000000#32) + Ideal.ofBits .f32 0x358637BD#32) * p (ix2 0 e)) := by
  pointwise [k0_pay3]

variable (c : Dev nD) (i : grid0.Coords) (arg3 : Memref sig .tc .vmem S1x512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x512x2048 .f32) (harg7 : arg7.IsWhole) (arg8 : Memref sig .tc .vmem S1x2048 .f32) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S512x2048 .f32) (harg11 : arg11.IsWhole)
  (x0 : Vec Ideal S1x512x2048 .bf16) (x1 x2 : Vec Ideal S2048x512 .bf16) (x3 : Vec Ideal S512x2048 .bf16) (x4 : Vec Ideal S1x512x2048 .f32) (x5 : Vec Ideal S1x2048 .f32) (x6 : Vec Ideal S1x1x2048 .f32) (xs : Vec Ideal S512x2048 .f32)

/-- Between the ends the body adds its chunk to the carried sum. -/
theorem sout_B (h0 : ¬cond0_0 i) (h1 : ¬cond0_1 i) (r : Fin 512) (e : Fin 2048) :
    sout0_B_0 c i arg3 harg3 arg4 harg4 arg5 harg5 arg6 harg6 arg7 harg7 arg8 harg8 arg9 harg9 arg10 harg10 arg11 harg11 h0 h1 x0 x1 x2 x3 x4 x5 x6 xs (ix2 r e)
      = xs (ix2 r e) + chunk x0 x1 x2 x3 r e := by
  frame_out
  exact step_apply _ _ _ _ _ _ _

/-- At a block's first chunk the carried sum starts from zero. -/
theorem sout_A (h0 : cond0_0 i) (h1 : ¬cond0_1 i) (r : Fin 512) (e : Fin 2048) :
    sout0_A_0 c i arg3 harg3 arg4 harg4 arg5 harg5 arg6 harg6 arg7 harg7 arg8 harg8 arg9 harg9 arg10 harg10 arg11 harg11 h0 h1 x0 x1 x2 x3 x4 x5 x6 (ix2 r e)
      = 0 + chunk x0 x1 x2 x3 r e := by
  frame_out
  rw [step_apply, show (k0_pay1 : FVec Ideal S512x2048 .f32) (ix2 r e) = 0 by pointwise [k0_pay1]]

/-- At the last chunk it is added to once more, -/
theorem sout_C (h0 : ¬cond0_0 i) (h1 : cond0_1 i) (r : Fin 512) (e : Fin 2048) :
    sout0_C_0 c i arg3 harg3 arg4 harg4 arg5 harg5 arg6 harg6 arg7 harg7 arg8 harg8 arg9 harg9 arg10 harg10 arg11 harg11 h0 h1 x0 x1 x2 x3 x4 x5 x6 xs (ix2 r e)
      = xs (ix2 r e) + chunk x0 x1 x2 x3 r e := by
  frame_out
  exact step_apply _ _ _ _ _ _ _

/-- and the result is made of it. -/
theorem out_C (h0 : ¬cond0_0 i) (h1 : cond0_1 i) (y : S1x512x2048.Idx) :
    out0_C_7 c i arg3 harg3 arg4 harg4 arg5 harg5 arg6 harg6 arg7 harg7 arg8 harg8 arg9 harg9 arg10 harg10 arg11 harg11 h0 h1 x0 x1 x2 x3 x4 x5 x6 xs y
      = k0_pay3 x4 x6 (sout0_C_0 c i arg3 harg3 arg4 harg4 arg5 harg5 arg6 harg6 arg7 harg7 arg8 harg8 arg9 harg9 arg10 harg10 arg11 harg11 h0 h1 x0 x1 x2 x3 x4 x5 x6 xs) x5 y := by
  frame_out

end Cert.Kernel2Ideal.Dense

end

end
-- ==== Proof.DenseSpec.lean ====
/- The dense feed-forward sub-layer over the extended reals, of whole arrays. -/
module

public import proofs.«01_k».proof.Proof.DenseStep

@[expose] public section

noncomputable section

namespace Cert.Dense

open Idealize.ShloMosaic Cert.Kernel2Ideal

variable (h : S4x4096x2048.Idx → EReal) (w1 w3 : S2048x5632.Idx → EReal) (w2 : S5632x2048.Idx → EReal)
  (x : S4x4096x2048.Idx → EReal) (p : S1x2048.Idx → EReal) (t : S4x1x2048.Idx → EReal)

/-- A hidden number of a token. -/
def hid (b : Fin 4) (n : Fin 4096) (f : Fin 5632) : EReal :=
  gate (∑ d : Fin 2048, h (ix3 b n d) * w1 (ix2 d f)) (∑ d : Fin 2048, h (ix3 b n d) * w3 (ix2 d f))

/-- The feed-forward product of a token. -/
def ffn (b : Fin 4) (n : Fin 4096) (e : Fin 2048) : EReal := ∑ f : Fin 5632, hid h w1 w3 b n f * w2 (ix2 f e)

/-- The residual plus the gate times a normalised row. -/
def post (x t p : EReal) (s : Fin 2048 → EReal) (e : Fin 2048) : EReal :=
  x + t * (s e * Ideal.rsqrt (Ideal.div (∑ k : Fin 2048, s k * s k) (Ideal.ofBits .f32 0x45000000#32)
    + Ideal.ofBits .f32 0x358637BD#32) * p)

/-- The sub-layer's result. -/
def layer (y : S4x4096x2048.Idx) : EReal :=
  post (x y) (t (ix3 (y 0) 0 (y 2))) (p (ix2 0 (y 2))) (ffn h w1 w3 w2 (y 0) (y 1)) (y 2)

/-- The silu of the reference, a number times its logistic, is the kernel's quotient. -/
theorem silu (a g : EReal) : a * Ideal.div 1 (1 + Ideal.exp (-a)) * g = gate a g := by
  have hp : (0 : EReal) ≤ Ideal.exp (-a) := by
    induction -a with
    | bot => exact le_refl _
    | top => exact le_top
    | coe r => exact EReal.coe_nonneg.mpr (Real.exp_pos r).le
  rw [Ideal.mul_one_div (ne_of_gt (lt_of_lt_of_le zero_lt_one (le_add_of_nonneg_right hp))), gate]

end Cert.Dense

end

end
-- ==== Proof.ExpertTables.lean ====
/- The two tables of the expert call: what the conditions and the index maps say of a grid point, in terms of the
   expert of each tile and of the number of tiles in use. -/
module

public import proofs.«01_k».proof.Defs
public import proofs.«01_k».proof.Proof.Gen.KernelIdeal
public import proofs.«01_k».proof.Proof.Gen.KernelIdeal.Launch
public import proofs.«01_k».proof.Proof.Gen.KernelIdeal.Flash.Runs

@[expose] public section

set_option maxRecDepth 16384
set_option Elab.async false

noncomputable section

namespace Cert.KernelIdeal.Expert

open Cert.KernelIdeal Cert.KernelIdeal.Gen
open Idealize.ShloMosaic Idealize.SL.Sem

/-- The contents of a prefetched pair of tables. -/
abbrev Tables := pre0.Contents (Elt Ideal)

/-- The one word of the second table. -/
def word (T1 : S1.Idx → BitVec 32) : BitVec 32 := T1 (fun a => ⟨0, by fin_cases a; decide⟩)

/-- The number of tiles in use. -/
def used (T1 : S1.Idx → BitVec 32) : ℕ := (word T1).toNat

/-- Entry `j` of the first table. -/
abbrev entry (j : Fin 72) : S72.Idx := fun a => Fin.cast (by fin_cases a; rfl) j

/-- Tile `j`'s expert. -/
def expert (T0 : S72.Idx → BitVec 32) (j : Fin 72) : ℕ := (T0 (entry j)).toNat

/-- The tables are a routing. -/
structure Routing (T0 : S72.Idx → BitVec 32) (T1 : S1.Idx → BitVec 32) : Prop where
  pos : 1 ≤ used T1
  le : used T1 ≤ 72
  lt : ∀ j, expert T0 j < 8

/-- The word the body loads. -/
abbrev loaded (T1 : S1.Idx → BitVec 32) : BitVec 32 :=
  View.readAt (Elt Ideal) (tbM0_1).view (Rect.unit (s := S1) ![0] S1.size inb_S1_S1_0).toLoadRect T1
    (Shape.Idx.first (numel1_S1.symm ▸ Nat.one_pos))

theorem s1_one (x y : S1.Idx) : x = y := by
  funext a; apply Fin.ext
  have hx := (x a).isLt; have hy := (y a).isLt
  have h1 : S1.size a = 1 := by fin_cases a; rfl
  omega

theorem loaded_eq (T1 : S1.Idx → BitVec 32) : loaded T1 = word T1 := by
  unfold word
  exact (rfl : loaded T1 = T1 ((Rect.unit (s := S1) ![0] S1.size inb_S1_S1_0).emb (Shape.Idx.first (numel1_S1.symm ▸ Nat.one_pos)))).trans
    (congrArg T1 (s1_one _ _))

theorem at1_eq (pf : Tables) : pf.at 1 (Rect.unit (s := S1) ![0] S1.size inb_S1_S1_0) numel1_S1 = word (pf 1) :=
  congrArg (pf 1) (s1_one _ _)

theorem atD1_eq (pf : Tables) : pf.atD 1 ![0] = word (pf 1) := by
  unfold Pipeline.Prefetch.Contents.atD
  rw [dif_pos (by decide)]
  exact congrArg (pf 1) (s1_one _ _)

theorem coord0_toNat (i : grid0.Coords) : (BitVec.ofNat 32 (i 0).val).toNat = (i 0).val := by
  have := (i 0).isLt
  have h : grid0.bound 0 = 72 := rfl
  rw [BitVec.toNat_ofNat]; exact Nat.mod_eq_of_lt (by omega)

/-- A point's tile. -/
abbrev tileOf (i : grid0.Coords) : Fin 72 := ⟨(i 0).val, (i 0).isLt⟩

/-- A point's slice of the hidden features. -/
abbrev sliceOf (i : grid0.Coords) : Fin 11 := ⟨(i 1).val, (i 1).isLt⟩

theorem at0_eq (pf : Tables) (i : grid0.Coords) (v : Index) (hv : v.toNat = (i 0).val)
    (h : ∀ a, (![v.toNat] : Fin 1 → ℕ) a + S1.size a ≤ S72.size a) :
    (pf.at 0 (Rect.unit (s := S72) ![v.toNat] S1.size h) numel1_S1 : BitVec 32) = pf 0 (entry (tileOf i)) := by
  refine congrArg (pf 0) ?_
  funext a; apply Fin.ext
  change Fin 1 at a
  obtain rfl : a = 0 := Subsingleton.elim _ _
  exact hv

/-! ## The conditions -/

theorem slt_iff : ∀ (j : Fin 72) (n : Fin 73), (Scalar.cmpi .slt (BitVec.ofNat 32 j.val) (BitVec.ofNat 32 n.val) : BitVec 1) = 1#1 ↔ j.val < n.val := by
  decide +kernel
theorem sge_iff : ∀ (j : Fin 72) (n : Fin 73), (Scalar.cmpi .sge (BitVec.ofNat 32 j.val) (BitVec.ofNat 32 n.val) : BitVec 1) = 1#1 ↔ n.val ≤ j.val := by
  decide +kernel
theorem min_eq : ∀ (j : Fin 72) (n : Fin 73), 1 ≤ n.val →
    (Scalar.minsi (BitVec.ofNat 32 j.val) (Scalar.subi (BitVec.ofNat 32 n.val) 1#32)).toNat = min j.val (n.val - 1) := by
  decide +kernel
theorem ten_iff : ∀ f : Fin 11, (Scalar.cmpi .eq (BitVec.ofNat 32 f.val) 10#32 : BitVec 1) = 1#1 ↔ f.val = 10 := by
  decide +kernel
theorem zero_iff : ∀ f : Fin 11, (Scalar.cmpi .ne (Scalar.extui (Scalar.cmpi .eq (BitVec.ofNat 32 f.val) 0#32) : BitVec 32) 0#32 : BitVec 1) = 1#1 ↔ f.val = 0 := by
  decide +kernel
theorem flag_iff : ∀ b : BitVec 1, (Scalar.cmpi .ne (Scalar.extui b : BitVec 32) 0#32 : BitVec 1) = 1#1 ↔ b = 1#1 := by
  decide +kernel
theorem and_iff : ∀ b b' : BitVec 1, Scalar.andi b b' = 1#1 ↔ b = 1#1 ∧ b' = 1#1 := by
  decide +kernel

variable {T1 : S1.Idx → BitVec 32}

theorem word_eq (h : used T1 ≤ 72) : word T1 = BitVec.ofNat 32 (⟨used T1, Nat.lt_succ_of_le h⟩ : Fin 73).val := by
  unfold used; simp

theorem cond1_iff (h : used T1 ≤ 72) (i : grid0.Coords) : k0_cond1 i (word T1) = 1#1 ↔ (i 0).val < used T1 := by
  rw [word_eq h]
  exact (flag_iff _).trans (slt_iff (tileOf i) _)

theorem cond3_iff (i : grid0.Coords) : k0_cond3 i = 1#1 ↔ (i 1).val = 10 :=
  (flag_iff _).trans (ten_iff (sliceOf i))

theorem cond4_iff (h : used T1 ≤ 72) (i : grid0.Coords) :
    k0_cond4 i (word T1) = 1#1 ↔ used T1 ≤ (i 0).val ∧ (i 1).val = 10 := by
  rw [word_eq h]
  refine (flag_iff _).trans ((and_iff _ _).trans ?_)
  exact and_congr (sge_iff (tileOf i) _) (ten_iff (sliceOf i))

theorem idle_eq (pf : Tables) (h : used (pf 1) ≤ 72) (i : grid0.Coords) :
    idle0 pf 4 i = decide ((i 1).val ≠ 10) := by
  show (!(k0_cond1 i (pf.atD 1 ![0]) == 1#1 && k0_cond3 i == 1#1) && !(k0_cond4 i (pf.atD 1 ![0]) == 1#1)) = _
  rw [atD1_eq, Bool.eq_iff_iff]
  simp only [Bool.and_eq_true, Bool.not_eq_true', Bool.and_eq_false_iff, beq_eq_false_iff_ne, ne_eq, decide_eq_true_eq,
    cond1_iff h, cond3_iff, cond4_iff h]
  omega

/-! ## The index maps -/

theorem transform_0_eq (pf : Tables) (h0 : 1 ≤ used (pf 1)) (h : used (pf 1) ≤ 72) (i : grid0.Coords) :
    cc0_transform_0 inb_S1_S1_0 numel1_S1 pf i = ![min (i 0).val (used (pf 1) - 1), 0] := by
  unfold cc0_transform_0
  dsimp only
  rw [at1_eq, word_eq h]
  congr 1
  exact min_eq (tileOf i) _ h0

theorem slice_eq (h : used T1 ≤ 72) (i : grid0.Coords) :
    (Scalar.select (Scalar.cmpi .slt (BitVec.ofNat 32 (i 0).val) (word T1)) (BitVec.ofNat 32 (i 1).val) 10#32 : BitVec 32).toNat
      = if (i 0).val < used T1 then (i 1).val else 10 := by
  have e : (Scalar.cmpi .slt (BitVec.ofNat 32 (i 0).val) (word T1) : BitVec 1) = 1#1 ↔ (i 0).val < used T1 := by
    rw [word_eq h]; exact slt_iff (tileOf i) _
  unfold Scalar.select
  by_cases hj : (i 0).val < used T1
  · rw [if_pos hj]
    simp only [e.2 hj]
    have := (i 1).isLt
    have hb : grid0.bound 1 = 11 := rfl
    simp; omega
  · rw [if_neg hj]
    exact congrArg BitVec.toNat (if_neg fun h' => hj (e.1 h'))

theorem slice_at (pf : Tables) (h : used (pf 1) ≤ 72) (i : grid0.Coords) :
    (Scalar.select (Scalar.cmpi .slt (BitVec.ofNat 32 (i 0).val) (pf.at 1 (Rect.unit (s := S1) ![0] S1.size inb_S1_S1_0) numel1_S1 : BitVec 32))
      (BitVec.ofNat 32 (i 1).val) 10#32 : BitVec 32).toNat = if (i 0).val < used (pf 1) then (i 1).val else 10 := by
  rw [at1_eq]; exact slice_eq h i

theorem transform_1_eq (pf : Tables) (h : used (pf 1) ≤ 72) (i : grid0.Coords) :
    cc0_transform_1 k0_off1_inb numel1_S1 inb_S1_S1_0 pf i
      = ![expert (pf 0) (tileOf i), 0, if (i 0).val < used (pf 1) then (i 1).val else 10] :=
  congrArg₂ (fun a b : ℕ => (![a, 0, b] : Fin 3 → ℕ))
    (congrArg BitVec.toNat (at0_eq pf i _ (coord0_toNat i) (k0_off1_inb i))) (slice_at pf h i)

theorem transform_2_eq (pf : Tables) (h : used (pf 1) ≤ 72) (i : grid0.Coords) :
    cc0_transform_2 k0_off1_inb numel1_S1 inb_S1_S1_0 pf i
      = ![expert (pf 0) (tileOf i), 0, if (i 0).val < used (pf 1) then (i 1).val else 10] :=
  congrArg₂ (fun a b : ℕ => (![a, 0, b] : Fin 3 → ℕ))
    (congrArg BitVec.toNat (at0_eq pf i _ (coord0_toNat i) (k0_off1_inb i))) (slice_at pf h i)

theorem transform_3_eq (pf : Tables) (h : used (pf 1) ≤ 72) (i : grid0.Coords) :
    cc0_transform_3 k0_off1_inb numel1_S1 inb_S1_S1_0 pf i
      = ![expert (pf 0) (tileOf i), if (i 0).val < used (pf 1) then (i 1).val else 10, 0] := by
  exact congrArg₂ (fun a b : ℕ => (![a, b, 0] : Fin 3 → ℕ))
    (congrArg BitVec.toNat (at0_eq pf i _ (coord0_toNat i) (k0_off1_inb i))) (slice_at pf h i)

/-- The tables' side condition: every block that they name lies inside its array. -/
theorem ok_of_routing (pf : Tables) (hr : Routing (pf 0) (pf 1)) : ok0 pf := by
  refine ⟨fun i => ⟨?_, .inl rfl⟩, fun i => ⟨?_, .inr (Affine.block_words_dvd (p := EltTy.packing .bf16) (by decide) (by decide))⟩,
    fun i => ⟨?_, .inr (Affine.block_words_dvd (p := EltTy.packing .bf16) (by decide) (by decide))⟩,
    fun i => ⟨?_, .inr (Affine.block_words_dvd (p := EltTy.packing .bf16) (by decide) (by decide))⟩⟩ <;>
  · have h0 := (i 0).isLt
    have h1 := (i 1).isLt
    have b0 : grid0.bound 0 = 72 := rfl
    have b1 : grid0.bound 1 = 11 := rfl
    have hl := hr.lt (tileOf i)
    have hu := hr.le
    have hp := hr.pos
    first
      | rw [transform_0_eq pf hr.pos hr.le] | rw [transform_1_eq pf hr.le]
      | rw [transform_2_eq pf hr.le] | rw [transform_3_eq pf hr.le]
    intro a
    fin_cases a <;> simp <;> (try split) <;> omega

end Cert.KernelIdeal.Expert

end
-- ==== Proof.ExpertSpec.lean ====
/- The mixture's experts on the sorted rows: a row's tile names its expert, and the row's result is that expert's gated
   feed-forward product; the rows of a tile that is not in use are zero. -/
module

public import proofs.«01_k».proof.Proof.DenseSpec
public import proofs.«01_k».proof.Proof.ExpertTables

@[expose] public section

set_option maxRecDepth 16384

noncomputable section

namespace Cert.Expert

open Idealize.ShloMosaic Cert.KernelIdeal Cert.KernelIdeal.Expert Cert.Dense

/-- A hidden number: expert `x`'s two products of row `n`, gated. -/
def hid (xs : S36864x2048.Idx → EReal) (w1 w3 : S8x2048x5632.Idx → EReal) (x : Fin 8) (n : Fin 36864) (f : Fin 5632) : EReal :=
  gate (∑ d : Fin 2048, xs (ix2 n d) * w1 (ix3 x d f)) (∑ d : Fin 2048, xs (ix2 n d) * w3 (ix3 x d f))

/-- A number of expert `x`'s product for row `n`. -/
def ffn (xs : S36864x2048.Idx → EReal) (w1 w3 : S8x2048x5632.Idx → EReal) (w2 : S8x5632x2048.Idx → EReal) (x : Fin 8)
    (n : Fin 36864) (e : Fin 2048) : EReal := ∑ f : Fin 5632, hid xs w1 w3 x n f * w2 (ix3 x f e)

/-- A row's tile. -/
def tile (n : Fin 36864) : Fin 72 := ⟨n.val / 512, by omega⟩

/-- The result: the product of the expert of the row's tile, where the tile is in use. -/
def rows (xs : S36864x2048.Idx → EReal) (w1 w3 : S8x2048x5632.Idx → EReal) (w2 : S8x5632x2048.Idx → EReal)
    (T0 : S72.Idx → BitVec 32) (T1 : S1.Idx → BitVec 32) (hr : Routing T0 T1) (n : Fin 36864) (e : Fin 2048) : EReal :=
  if (tile n).val < used T1 then ffn xs w1 w3 w2 ⟨expert T0 (tile n), hr.lt _⟩ n e else 0

/-- The whole array. -/
def mixture (xs : S36864x2048.Idx → EReal) (w1 w3 : S8x2048x5632.Idx → EReal) (w2 : S8x5632x2048.Idx → EReal)
    (T0 : S72.Idx → BitVec 32) (T1 : S1.Idx → BitVec 32) (hr : Routing T0 T1) : S36864x2048.Idx → EReal :=
  fun y => rows xs w1 w3 w2 T0 T1 hr ⟨y 0, (y 0).isLt⟩ ⟨y 1, (y 1).isLt⟩

end Cert.Expert

end
-- ==== Proof.ExpertRun.lean ====
/- What each path through the expert call's body leaves in the two scratch arrays and in the output's block, as the
   payloads themselves. -/
module

public import proofs.«01_k».proof.Proof.Gen.KernelIdeal.Flash.Runs
public import Idealize.ShloMosaic.Lib.Pipeline.ValueKit.Acc

@[expose] public section

set_option maxRecDepth 16384
set_option Elab.async false

noncomputable section

namespace Cert.KernelIdeal.Expert

open Cert.KernelIdeal Cert.KernelIdeal.Gen
open Idealize.ShloMosaic Idealize.ShloMosaic.TcCoe Idealize.SL.Sem

section
variable (c : Dev nD) (i : grid0.Coords)
  (a4 : Memref sig .tc .vmem S512x2048 .f32) (h4 : a4.IsWhole) (a5 : Memref sig .tc .vmem S1x2048x512 .bf16) (h5 : a5.IsWhole)
  (a6 : Memref sig .tc .vmem S1x2048x512 .bf16) (h6 : a6.IsWhole) (a7 : Memref sig .tc .vmem S1x512x2048 .bf16) (h7 : a7.IsWhole)
  (a8 : Memref sig .tc .vmem S512x2048 .f32) (h8 : a8.IsWhole)
  (T0 : S72.Idx → Elt Ideal .i32) (T1 : S1.Idx → Elt Ideal .i32)
  (x0 : S512x2048.Idx → Elt Ideal .f32) (x1 x2 : S1x2048x512.Idx → Elt Ideal .bf16) (x3 : S1x512x2048.Idx → Elt Ideal .bf16)
  (b0 : Buf (Elt Ideal) ((c : Thread nD τ).loc cc0_scratch0)) (b1 : Buf (Elt Ideal) ((c : Thread nD τ).loc cc0_scratch1))

theorem kept_A (k1 : k0_cond1 i (View.readAt (Elt Ideal) (tbM0_1).view (Rect.unit (s := S1) ![0] S1.size inb_S1_S1_0).toLoadRect T1 (Shape.Idx.first (numel1_S1.symm ▸ Nat.one_pos))) = 1#1) (k2 : Scalar.cmpi .ne (Scalar.extui (Scalar.cmpi .eq (BitVec.ofNat 32 (i 1).val) 0#32)) 0#32 = 1#1) (k3 : ¬k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_A c i a4 h4 a5 h5 a6 h6 a7 h7 a8 h8 T0 T1 x0 x1 x2 x3 k1 k2 k3 k4).1 = k0_pay1 x0 := by
  refine (rfl : _ = (View.whole cc0_scratch0).read (Elt Ideal) _).trans ?_
  frame_out
  simp only [View.read_rep]
  exact View.canon_cons_unit_lit _ _ _ (by decide)

theorem sum_A (k1 : k0_cond1 i (View.readAt (Elt Ideal) (tbM0_1).view (Rect.unit (s := S1) ![0] S1.size inb_S1_S1_0).toLoadRect T1 (Shape.Idx.first (numel1_S1.symm ▸ Nat.one_pos))) = 1#1) (k2 : Scalar.cmpi .ne (Scalar.extui (Scalar.cmpi .eq (BitVec.ofNat 32 (i 1).val) 0#32)) 0#32 = 1#1) (k3 : ¬k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_A c i a4 h4 a5 h5 a6 h6 a7 h7 a8 h8 T0 T1 x0 x1 x2 x3 k1 k2 k3 k4).2.1 = k0_pay3 (k0_pay2 (F := Ideal)) (k0_pay1 x0) x1 x2 x3 := by
  refine (rfl : _ = (View.whole cc0_scratch1).read (Elt Ideal) _).trans ?_
  frame_out
  simp only [View.read_rep]
  refine (View.canon_cons_unit_lit _ _ _ (by decide)).trans ?_
  rfl

theorem kept_B (k1 : k0_cond1 i (View.readAt (Elt Ideal) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : ¬k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_B c i a4 h4 a5 h5 a6 h6 a7 h7 a8 h8 T0 T1 x0 x1 x2 x3 b0 b1 k1 k2 k3 k4).1 = b0 := by
  frame_out

theorem sum_B (k1 : k0_cond1 i (View.readAt (Elt Ideal) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : ¬k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_B c i a4 h4 a5 h5 a6 h6 a7 h7 a8 h8 T0 T1 x0 x1 x2 x3 b0 b1 k1 k2 k3 k4).2.1 = k0_pay3 b1 b0 x1 x2 x3 := by
  refine (rfl : _ = (View.whole cc0_scratch1).read (Elt Ideal) _).trans ?_
  frame_out
  simp only [View.read_rep]
  refine (View.canon_cons_unit_lit _ _ _ (by decide)).trans ?_
  rfl

theorem kept_C (k1 : k0_cond1 i (View.readAt (Elt Ideal) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_C c i a4 h4 a5 h5 a6 h6 a7 h7 a8 h8 T0 T1 x0 x1 x2 x3 b0 b1 k1 k2 k3 k4).2.1 = b0 := by
  frame_out

theorem sum_C (k1 : k0_cond1 i (View.readAt (Elt Ideal) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_C c i a4 h4 a5 h5 a6 h6 a7 h7 a8 h8 T0 T1 x0 x1 x2 x3 b0 b1 k1 k2 k3 k4).2.2.1 = k0_pay3 b1 b0 x1 x2 x3 := by
  refine (rfl : _ = (View.whole cc0_scratch1).read (Elt Ideal) _).trans ?_
  frame_out
  simp only [View.read_rep]
  refine (View.canon_cons_unit_lit _ _ _ (by decide)).trans ?_
  rfl

theorem stored_C (k1 : k0_cond1 i (View.readAt (Elt Ideal) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    out0_C_4 c i a4 h4 a5 h5 a6 h6 a7 h7 a8 h8 T0 T1 x0 x1 x2 x3 b0 b1 k1 k2 k3 k4 = k0_pay3 b1 b0 x1 x2 x3 := by
  frame_out
  simp only [View.read_rep]
  rfl

theorem kept_D (k1 : ¬k0_cond1 i (View.readAt (Elt Ideal) (tbM0_1).view (Rect.unit (s := S1) ![0] S1.size inb_S1_S1_0).toLoadRect T1 (Shape.Idx.first (numel1_S1.symm ▸ Nat.one_pos))) = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_D c i a4 h4 a5 h5 a6 h6 a7 h7 a8 h8 T0 T1 x0 x1 x2 x3 b0 b1 k1 k4).1 = b0 := by
  frame_out

theorem sum_D (k1 : ¬k0_cond1 i (View.readAt (Elt Ideal) (tbM0_1).view (Rect.unit (s := S1) ![0] S1.size inb_S1_S1_0).toLoadRect T1 (Shape.Idx.first (numel1_S1.symm ▸ Nat.one_pos))) = 1#1) (k4 : ¬k0_cond4 i (View.readAt (Elt Ideal) (tbM0_1).view (Rect.unit (s := S1) ![0] S1.size inb_S1_S1_0).toLoadRect T1 (Shape.Idx.first (numel1_S1.symm ▸ Nat.one_pos))) = 1#1) :
    (kernelRun0_D c i a4 h4 a5 h5 a6 h6 a7 h7 a8 h8 T0 T1 x0 x1 x2 x3 b0 b1 k1 k4).2.1 = b1 := by
  frame_out

theorem kept_E (k1 : ¬k0_cond1 i (View.readAt (Elt Ideal) (tbM0_1).view (Rect.unit (s := S1) ![0] S1.size inb_S1_S1_0).toLoadRect T1 (Shape.Idx.first (numel1_S1.symm ▸ Nat.one_pos))) = 1#1) (k4 : k0_cond4 i (View.readAt (Elt Ideal) (tbM0_1).view (Rect.unit (s := S1) ![0] S1.size inb_S1_S1_0).toLoadRect T1 (Shape.Idx.first (numel1_S1.symm ▸ Nat.one_pos))) = 1#1) :
    (kernelRun0_E c i a4 h4 a5 h5 a6 h6 a7 h7 a8 h8 T0 T1 x0 x1 x2 x3 b0 b1 k1 k4).2.1 = b0 := by
  frame_out

theorem sum_E (k1 : ¬k0_cond1 i (View.readAt (Elt Ideal) (tbM0_1).view (Rect.unit (s := S1) ![0] S1.size inb_S1_S1_0).toLoadRect T1 (Shape.Idx.first (numel1_S1.symm ▸ Nat.one_pos))) = 1#1) (k4 : k0_cond4 i (View.readAt (Elt Ideal) (tbM0_1).view (Rect.unit (s := S1) ![0] S1.size inb_S1_S1_0).toLoadRect T1 (Shape.Idx.first (numel1_S1.symm ▸ Nat.one_pos))) = 1#1) :
    (kernelRun0_E c i a4 h4 a5 h5 a6 h6 a7 h7 a8 h8 T0 T1 x0 x1 x2 x3 b0 b1 k1 k4).2.2.1 = b1 := by
  frame_out

theorem stored_E (k1 : ¬k0_cond1 i (View.readAt (Elt Ideal) (tbM0_1).view (Rect.unit (s := S1) ![0] S1.size inb_S1_S1_0).toLoadRect T1 (Shape.Idx.first (numel1_S1.symm ▸ Nat.one_pos))) = 1#1) (k4 : k0_cond4 i (View.readAt (Elt Ideal) (tbM0_1).view (Rect.unit (s := S1) ![0] S1.size inb_S1_S1_0).toLoadRect T1 (Shape.Idx.first (numel1_S1.symm ▸ Nat.one_pos))) = 1#1) :
    out0_E_4 c i a4 h4 a5 h5 a6 h6 a7 h7 a8 h8 T0 T1 x0 x1 x2 x3 b0 b1 k1 k4 = k0_pay4 (F := Ideal) := by
  frame_out

end

end Cert.KernelIdeal.Expert

end
-- ==== Proof.ExpertFrame.lean ====
/- The expert call's launch, at any tables that are a routing: what the two scratch arrays and the output's block hold at
   each grid point, the body's obligation there, and the run of the whole program. -/
module

public import proofs.«01_k».proof.Proof.ExpertTables
public import proofs.«01_k».proof.Proof.ExpertRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Expert

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of a run. -/
abbrev Res := MT nD τ sig Unit (Elt Ideal) ℕ (UR sig nD τ) ℕ

/-- The staging cells' part of them. -/
abbrev cellsIn : Emb (UR sig nD τ) Res := emb₁

variable (m : (ℓ : Loc nD τ sig) → Buf (Elt Ideal) ℓ) (ρ : Dev nD → PrngReg)

/-! ## The tables that memory `m` holds, and the pipeline at them -/

/-- The experts' table. -/
abbrev tab0 : S72.Idx → BitVec 32 := m (((0 : Dev nD) : Thread nD τ).loc main_arg4)

/-- The count of the tiles in use. -/
abbrev tab1 : S1.Idx → BitVec 32 := m (((0 : Dev nD) : Thread nD τ).loc main_arg5)

/-- Both. -/
def tabs : Tables := fun | ⟨0, _⟩ => tab0 m | ⟨1, _⟩ => tab1 m | ⟨_ + 2, h⟩ => absurd h (by simp)

/-- The memory holds a routing. -/
abbrev Routed : Prop := Routing (tab0 m) (tab1 m)

variable (hr : Routed m)

/-- The tables with their side condition. -/
def adm : (pcfg0 (F := Ideal)).Adm := ⟨tabs m, ok_of_routing (tabs m) hr⟩
abbrev cfgA : Pipeline.Cfg sig Λ₀ := cfg0 (F := Ideal) (adm m hr)
abbrev pcs : Fin 1 → Pipeline.Cfg sig Λ₀ := Pipeline.pin (pcfgs (F := Ideal)) fun _ => adm m hr

/-- A point's coordinates. -/
abbrev crd (t : Fin (cfgA m hr).N) : grid0.Coords := (cfgA m hr).grid.coords t

abbrev ms0 (t : Fin (cfgA m hr).N) : Memref sig .tc .vmem S512x2048 .f32 := spec0_0.stage ((cfgA m hr).slots t (0 : Fin 5))
abbrev hs0 (t : Fin (cfgA m hr).N) : (ms0 m hr t).IsWhole := hstage0_0 (((cfgA m hr).slots t (0 : Fin 5)).cast nbuf0_0)
abbrev ms1 (t : Fin (cfgA m hr).N) : Memref sig .tc .vmem S1x2048x512 .bf16 := spec0_1.stage ((cfgA m hr).slots t (1 : Fin 5))
abbrev hs1 (t : Fin (cfgA m hr).N) : (ms1 m hr t).IsWhole := hstage0_1 (((cfgA m hr).slots t (1 : Fin 5)).cast nbuf0_1)
abbrev ms2 (t : Fin (cfgA m hr).N) : Memref sig .tc .vmem S1x2048x512 .bf16 := spec0_2.stage ((cfgA m hr).slots t (2 : Fin 5))
abbrev hs2 (t : Fin (cfgA m hr).N) : (ms2 m hr t).IsWhole := hstage0_2 (((cfgA m hr).slots t (2 : Fin 5)).cast nbuf0_2)
abbrev ms3 (t : Fin (cfgA m hr).N) : Memref sig .tc .vmem S1x512x2048 .bf16 := spec0_3.stage ((cfgA m hr).slots t (3 : Fin 5))
abbrev hs3 (t : Fin (cfgA m hr).N) : (ms3 m hr t).IsWhole := hstage0_3 (((cfgA m hr).slots t (3 : Fin 5)).cast nbuf0_3)
abbrev ms4 (t : Fin (cfgA m hr).N) : Memref sig .tc .vmem S512x2048 .f32 := spec0_4.stage ((cfgA m hr).slots t (4 : Fin 5))
abbrev hs4 (t : Fin (cfgA m hr).N) : (ms4 m hr t).IsWhole := hstage0_4 (((cfgA m hr).slots t (4 : Fin 5)).cast nbuf0_4)

/-- Window `w`'s block at point `t`, read off its array at the start. -/
def blk (c : Dev nD) (w : Fin (cfgA m hr).W) (t : Fin (cfgA m hr).N) :
    (((cfgA m hr).win w).xblock (crd m hr t)).Idx → Elt Ideal ((cfgA m hr).win w).elt :=
  (((cfgA m hr).win w).blk t).view.read (Elt Ideal) ((s₀ m ρ).mem (((cfgA m hr).win w).arr.view.loc (c : Thread nD τ)))

/-! ## The points, by their number -/

theorem coords_eq : ∀ t : Fin grid0.N, (grid0.coords t 0).val = t.val / 11 ∧ (grid0.coords t 1).val = t.val % 11 := by
  decide +kernel

theorem crd0 (t : Fin (cfgA m hr).N) : (crd m hr t 0).val = t.val / 11 := (coords_eq t).1
theorem crd1 (t : Fin (cfgA m hr).N) : (crd m hr t 1).val = t.val % 11 := (coords_eq t).2

theorem flushes : ∀ t : Fin grid0.N, Window.flushOf grid0 true cc0_transform_4 t = decide (t.val % 11 = 10) := by
  decide +kernel

theorem flush_eq (t : Fin (cfgA m hr).N) : ((cfgA m hr).win (4 : Fin 5)).flush t = decide (t.val % 11 = 10) :=
  (Window.flush_eq_flushOf _ t).trans (flushes t)

theorem idle_at (t : Fin (cfgA m hr).N) : (cfgA m hr).idle (4 : Fin 5) ((cfgA m hr).grid.coords t) = decide (t.val % 11 ≠ 10) := by
  refine (idle_eq (tabs m) hr.le (crd m hr t)).trans ?_
  rw [crd1]

/-- The output's block holds nothing before any point: it is stored only where it is written back. -/
theorem fresh_eq (n : ℕ) (h : n ≤ (cfgA m hr).N) : (cfgA m hr).fresh (4 : Fin 5) n = true := by
  refine (cfgA m hr).fresh_tab (4 : Fin 5) (fun _ => true) rfl (fun t => ?_) n h
  rw [flush_eq, idle_at, Bool.and_true]
  by_cases h10 : t.val % 11 = 10 <;> simp [h10]

/-- The tile of point `t` is in use. -/
abbrev Live (t : ℕ) : Prop := t / 11 < used (tab1 m)

/-- Before point `t` the scratch arrays hold what its tile's earlier points left. -/
abbrev Held (t : ℕ) : Prop := Live m t ∧ t % 11 ≠ 0

/-! ## What the scratch arrays hold -/

/-- The two scratch arrays' contents. -/
abbrev Scr (c : Dev nD) : Type :=
  Buf (Elt Ideal) ((c : Thread nD τ).loc cc0_scratch0) × Buf (Elt Ideal) ((c : Thread nD τ).loc cc0_scratch1)

/-- One point of a tile in use: the first keeps the rows and starts the sum, the others add to it. -/
def grow (c : Dev nD) (t : Fin (cfgA m hr).N) (s : Scr c) : Scr c :=
  if t.val % 11 = 0 then
    (k0_pay1 (blk m ρ hr c (0 : Fin 5) t), k0_pay3 (k0_pay2 (F := Ideal)) (k0_pay1 (blk m ρ hr c (0 : Fin 5) t))
      (blk m ρ hr c (1 : Fin 5) t) (blk m ρ hr c (2 : Fin 5) t) (blk m ρ hr c (3 : Fin 5) t))
  else (s.1, k0_pay3 s.2 s.1 (blk m ρ hr c (1 : Fin 5) t) (blk m ρ hr c (2 : Fin 5) t) (blk m ρ hr c (3 : Fin 5) t))

/-- The contents after `n` points. -/
def chain (c : Dev nD) : ℕ → Scr c
  | 0 => default
  | n + 1 => if h : n < (cfgA m hr).N then grow m ρ hr c ⟨n, h⟩ (chain c n) else chain c n

theorem chain_succ (c : Dev nD) (t : Fin (cfgA m hr).N) : chain m ρ hr c (t.val + 1) = grow m ρ hr c t (chain m ρ hr c t.val) := by
  rw [chain, dif_pos t.isLt]

theorem chain_first (c : Dev nD) (t : Fin (cfgA m hr).N) (h : t.val % 11 = 0) : chain m ρ hr c (t.val + 1)
    = (k0_pay1 (blk m ρ hr c (0 : Fin 5) t), k0_pay3 (k0_pay2 (F := Ideal)) (k0_pay1 (blk m ρ hr c (0 : Fin 5) t))
      (blk m ρ hr c (1 : Fin 5) t) (blk m ρ hr c (2 : Fin 5) t) (blk m ρ hr c (3 : Fin 5) t)) := by
  rw [chain_succ, grow, if_pos h]

theorem chain_next (c : Dev nD) (t : Fin (cfgA m hr).N) (h : ¬t.val % 11 = 0) : chain m ρ hr c (t.val + 1)
    = ((chain m ρ hr c t.val).1, k0_pay3 (chain m ρ hr c t.val).2 (chain m ρ hr c t.val).1
      (blk m ρ hr c (1 : Fin 5) t) (blk m ρ hr c (2 : Fin 5) t) (blk m ρ hr c (3 : Fin 5) t)) := by
  rw [chain_succ, grow, if_neg h]

/-- What point `t` leaves in the output's block, where it stores it. -/
def left (c : Dev nD) (t : Fin (cfgA m hr).N) : S512x2048.Idx → Elt Ideal .f32 :=
  if Live m t.val then (chain m ρ hr c (t.val + 1)).2 else k0_pay4 (F := Ideal)

/-- What holds before point `t`: the scratch arrays where they are known, and the body's halves of the tables. -/
def inv (c : Dev nD) (t : Fin ((cfgA m hr).N + 1)) : sProp Res :=
  iprop((∃ a, ⌜Held m t.val → a = (chain m ρ hr c t.val).1⌝ ∗ (scM0_0.view.loc (c : Thread nD τ) ↦{fullShare} a))
    ∗ (∃ a, ⌜Held m t.val → a = (chain m ρ hr c t.val).2⌝ ∗ (scM0_1.view.loc (c : Thread nD τ) ↦{fullShare} a))
    ∗ (tbM0_0.view.loc (c : Thread nD τ) ↦{fullShare.right} tab0 m) ∗ (tbM0_1.view.loc (c : Thread nD τ) ↦{fullShare.right} tab1 m))

/-- The pipeline's proof data on core `c`. -/
def dats (_ : Fin 1) (c : Dev nD) : Dat τ (Elt Ideal) Unit ℕ (UR sig nD τ) ℕ (cfgA m hr) c where
  A w := (s₀ m ρ).mem (((cfgA m hr).win w).arr.view.loc (c : Thread nD τ))
  after w t := match w with
    | ⟨0, _⟩ => blk m ρ hr c (0 : Fin 5) t
    | ⟨1, _⟩ => blk m ρ hr c (1 : Fin 5) t
    | ⟨2, _⟩ => blk m ρ hr c (2 : Fin 5) t
    | ⟨3, _⟩ => blk m ρ hr c (3 : Fin 5) t
    | ⟨4, _⟩ => left m ρ hr c t
  Φ t := inv m ρ hr c t
  q _ := fullShare
  owed _ := 0

theorem after0 (c : Dev nD) (t : Fin (cfgA m hr).N) : (dats m ρ hr 0 c).after (0 : Fin 5) t = blk m ρ hr c (0 : Fin 5) t := rfl
theorem after1 (c : Dev nD) (t : Fin (cfgA m hr).N) : (dats m ρ hr 0 c).after (1 : Fin 5) t = blk m ρ hr c (1 : Fin 5) t := rfl
theorem after2 (c : Dev nD) (t : Fin (cfgA m hr).N) : (dats m ρ hr 0 c).after (2 : Fin 5) t = blk m ρ hr c (2 : Fin 5) t := rfl
theorem after3 (c : Dev nD) (t : Fin (cfgA m hr).N) : (dats m ρ hr 0 c).after (3 : Fin 5) t = blk m ρ hr c (3 : Fin 5) t := rfl
theorem after4 (c : Dev nD) (t : Fin (cfgA m hr).N) : (dats m ρ hr 0 c).after (4 : Fin 5) t = left m ρ hr c t := rfl

theorem before0 (c : Dev nD) (t : Fin (cfgA m hr).N) (d) : (dats m ρ hr 0 c).before (0 : Fin 5) t d = blk m ρ hr c (0 : Fin 5) t :=
  ((dats m ρ hr 0 c).before_in_eq_fetched (0 : Fin 5) rfl (fun _ => rfl) (fun _ _ _ => rfl)
    (fun t => by rw [after0]; unfold Dat.blockOf blk; rfl) t d).trans (by unfold Dat.fetched Dat.blockOf blk; rfl)
theorem before1 (c : Dev nD) (t : Fin (cfgA m hr).N) (d) : (dats m ρ hr 0 c).before (1 : Fin 5) t d = blk m ρ hr c (1 : Fin 5) t :=
  ((dats m ρ hr 0 c).before_in_eq_fetched (1 : Fin 5) rfl (fun _ => rfl) (fun _ _ _ => rfl)
    (fun t => by rw [after1]; unfold Dat.blockOf blk; rfl) t d).trans (by unfold Dat.fetched Dat.blockOf blk; rfl)
theorem before2 (c : Dev nD) (t : Fin (cfgA m hr).N) (d) : (dats m ρ hr 0 c).before (2 : Fin 5) t d = blk m ρ hr c (2 : Fin 5) t :=
  ((dats m ρ hr 0 c).before_in_eq_fetched (2 : Fin 5) rfl (fun _ => rfl) (fun _ _ _ => rfl)
    (fun t => by rw [after2]; unfold Dat.blockOf blk; rfl) t d).trans (by unfold Dat.fetched Dat.blockOf blk; rfl)
theorem before3 (c : Dev nD) (t : Fin (cfgA m hr).N) (d) : (dats m ρ hr 0 c).before (3 : Fin 5) t d = blk m ρ hr c (3 : Fin 5) t :=
  ((dats m ρ hr 0 c).before_in_eq_fetched (3 : Fin 5) rfl (fun _ => rfl) (fun _ _ _ => rfl)
    (fun t => by rw [after3]; unfold Dat.blockOf blk; rfl) t d).trans (by unfold Dat.fetched Dat.blockOf blk; rfl)
theorem before4 (c : Dev nD) (t : Fin (cfgA m hr).N) (d) : (dats m ρ hr 0 c).before (4 : Fin 5) t d = d := by
  rw [(dats m ρ hr 0 c).before_out_traj (4 : Fin 5) rfl (fun _ _ => rfl)
    (fun t _ _ hf => absurd ((fresh_eq m hr t.val t.isLt.le).symm.trans hf) (by decide)) t.val t rfl d,
    fresh_eq m hr t.val t.isLt.le, if_pos rfl]

/-! ## The body at a point -/

/-- The body on point `t`'s staging buffers. -/
abbrev bodyAt (t : Fin (cfgA m hr).N) : Prog (TpuEff nD τ sig (Elt Ideal) Λ₀ .tc) PUnit :=
  cc0_ffn_expert (crd m hr t) (Memref.whole main_arg4) (Memref.isWhole_whole _) (Memref.whole main_arg5) (Memref.isWhole_whole _) (ms0 m hr t) (hs0 m hr t) (ms1 m hr t) (hs1 m hr t) (ms2 m hr t) (hs2 m hr t) (ms3 m hr t) (hs3 m hr t) (ms4 m hr t) (hs4 m hr t) (Memref.whole cc0_scratch0) (Memref.isWhole_whole _) (Memref.whole cc0_scratch1) (Memref.isWhole_whole _)

/-- What the body is handed at point `t`. -/
def given (c : Dev nD) (t : Fin (cfgA m hr).N) : sProp Res :=
  iprop((dats m ρ hr 0 c).Φ t.castSucc ∗ (dats m ρ hr 0 c).owesAt () t.castSucc
    ∗ (∃ d, owns (c : Thread nD τ) (ms0 m hr t) fullShare ((dats m ρ hr 0 c).before (0 : Fin 5) t d))
    ∗ (∃ d, owns (c : Thread nD τ) (ms1 m hr t) fullShare ((dats m ρ hr 0 c).before (1 : Fin 5) t d))
    ∗ (∃ d, owns (c : Thread nD τ) (ms2 m hr t) fullShare ((dats m ρ hr 0 c).before (2 : Fin 5) t d))
    ∗ (∃ d, owns (c : Thread nD τ) (ms3 m hr t) fullShare ((dats m ρ hr 0 c).before (3 : Fin 5) t d))
    ∗ (∃ d, owns (c : Thread nD τ) (ms4 m hr t) fullShare ((dats m ρ hr 0 c).before (4 : Fin 5) t d)))

/-- What it hands back. -/
def returned (c : Dev nD) (t : Fin (cfgA m hr).N) : sProp Res :=
  iprop((dats m ρ hr 0 c).Φ t.succ ∗ (dats m ρ hr 0 c).owesAt () t.succ
    ∗ bigSep Finset.univ fun w : Fin (cfgA m hr).W =>
        match (cfgA m hr).idle w ((cfgA m hr).grid.coords t) with
        | true =>
          match ((cfgA m hr).win w).flush t with
          | false => iprop(∃ d, owns (c : Thread nD τ) (((cfgA m hr).win w).stage ((cfgA m hr).slots t w)) fullShare ((dats m ρ hr 0 c).before w t d))
          | true => owns (c : Thread nD τ) (((cfgA m hr).win w).stage ((cfgA m hr).slots t w)) fullShare ((dats m ρ hr 0 c).after w t)
        | false => owns (c : Thread nD τ) (((cfgA m hr).win w).stage ((cfgA m hr).slots t w)) fullShare ((dats m ρ hr 0 c).after w t))

set_option maxHeartbeats 4000000 in
theorem body_A (c : Dev nD) (t : Fin (cfgA m hr).N) (hl : Live m t.val) (h0 : t.val % 11 = 0) :
    given m ρ hr c t ⊢ wp frame (wpE (defs₀ (F := Ideal)) Variants.none c none) Set.univ (bodyAt m hr t) fun _ => returned m ρ hr c t := by
  have h9 : ¬t.val % 11 = 10 := by omega
  have i4 : (cfgA m hr).idle (4 : Fin 5) ((cfgA m hr).grid.coords t) = true := by rw [idle_at]; simp [h9]
  have f4 : ((cfgA m hr).win (4 : Fin 5)).flush t = false := by rw [flush_eq]; simp [h9]
  have k1 : k0_cond1 (crd m hr t) (loaded (tab1 m)) = 1#1 := by
    rw [loaded_eq, cond1_iff hr.le, crd0]; exact hl
  have k2 : Scalar.cmpi .ne (Scalar.extui (Scalar.cmpi .eq (BitVec.ofNat 32 (crd m hr t 1).val) 0#32) : BitVec 32) 0#32 = 1#1 :=
    (zero_iff (sliceOf (crd m hr t))).2 ((crd1 m hr t).trans h0)
  have k3 : ¬k0_cond3 (crd m hr t) = 1#1 := by
    rw [cond3_iff, crd1]; exact h9
  have k4 : ¬k0_cond4 (crd m hr t) (loaded (tab1 m)) = 1#1 := by
    rw [loaded_eq, cond4_iff hr.le, crd0, crd1]
    exact fun h => absurd h.1 (Nat.not_le.2 hl)
  unfold given returned
  rw [bigSep_W0]
  rewrite [i4]
  simp only [before0, before1, before2, before3, before4, after0, after1, after2, after3, after4, f4]
  rewrite [show (dats m ρ hr 0 c).Φ t.succ = inv m ρ hr c t.succ from rfl, show (dats m ρ hr 0 c).Φ t.castSucc = inv m ρ hr c t.castSucc from rfl,
    show (dats m ρ hr 0 c).owesAt () t.succ = (dats m ρ hr 0 c).owesAt () t.castSucc from rfl]
  unfold inv
  simp only [Fin.val_castSucc, Fin.val_succ]
  iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
  iapply ((kernelRun0_A c (crd m hr t) (ms0 m hr t) (hs0 m hr t) (ms1 m hr t) (hs1 m hr t) (ms2 m hr t) (hs2 m hr t) (ms3 m hr t) (hs3 m hr t) (ms4 m hr t) (hs4 m hr t) (tab0 m) (tab1 m) (blk m ρ hr c (0 : Fin 5) t) (blk m ρ hr c (1 : Fin 5) t) (blk m ρ hr c (2 : Fin 5) t) (blk m ρ hr c (3 : Fin 5) t) k1 k2 k3 k4).2.2 _ a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; exact fun _ => (kept_A ..).trans (congrArg Prod.fst (chain_first m ρ hr c t h0)).symm
    isplitl [HS1]
    · iexists _; isplitr; swap
      · iexact HS1
      · ipureintro; exact fun _ => (sum_A ..).trans (congrArg Prod.snd (chain_first m ρ hr c t h0)).symm
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

set_option maxHeartbeats 4000000 in
theorem body_B (c : Dev nD) (t : Fin (cfgA m hr).N) (hl : Live m t.val) (h0 : ¬t.val % 11 = 0) (h9 : ¬t.val % 11 = 10) :
    given m ρ hr c t ⊢ wp frame (wpE (defs₀ (F := Ideal)) Variants.none c none) Set.univ (bodyAt m hr t) fun _ => returned m ρ hr c t := by
  have i4 : (cfgA m hr).idle (4 : Fin 5) ((cfgA m hr).grid.coords t) = true := by rw [idle_at]; simp [h9]
  have f4 : ((cfgA m hr).win (4 : Fin 5)).flush t = false := by rw [flush_eq]; simp [h9]
  have k1 : k0_cond1 (crd m hr t) (loaded (tab1 m)) = 1#1 := by
    rw [loaded_eq, cond1_iff hr.le, crd0]; exact hl
  have k2 : ¬Scalar.cmpi .ne (Scalar.extui (Scalar.cmpi .eq (BitVec.ofNat 32 (crd m hr t 1).val) 0#32) : BitVec 32) 0#32 = 1#1 :=
    fun hz => h0 ((crd1 m hr t).symm.trans ((zero_iff (sliceOf (crd m hr t))).1 hz))
  have k3 : ¬k0_cond3 (crd m hr t) = 1#1 := by
    rw [cond3_iff, crd1]; exact h9
  have k4 : ¬k0_cond4 (crd m hr t) (loaded (tab1 m)) = 1#1 := by
    rw [loaded_eq, cond4_iff hr.le, crd0, crd1]
    exact fun h => absurd h.1 (Nat.not_le.2 hl)
  have hh : Held m t.val := ⟨hl, h0⟩
  unfold given returned
  rw [bigSep_W0]
  rewrite [i4]
  simp only [before0, before1, before2, before3, before4, after0, after1, after2, after3, after4, f4]
  rewrite [show (dats m ρ hr 0 c).Φ t.succ = inv m ρ hr c t.succ from rfl, show (dats m ρ hr 0 c).Φ t.castSucc = inv m ρ hr c t.castSucc from rfl,
    show (dats m ρ hr 0 c).owesAt () t.succ = (dats m ρ hr 0 c).owesAt () t.castSucc from rfl]
  unfold inv
  simp only [Fin.val_castSucc, Fin.val_succ]
  simp only [exists_held hh]
  iintro ⟨⟨HS0, HS1, HT0, HT1⟩, Ho, ⟨%d0, H0⟩, ⟨%d1, H1⟩, ⟨%d2, H2⟩, ⟨%d3, H3⟩, ⟨%d4, H4⟩⟩
  iapply ((kernelRun0_B c (crd m hr t) (ms0 m hr t) (hs0 m hr t) (ms1 m hr t) (hs1 m hr t) (ms2 m hr t) (hs2 m hr t) (ms3 m hr t) (hs3 m hr t) (ms4 m hr t) (hs4 m hr t) (tab0 m) (tab1 m) (blk m ρ hr c (0 : Fin 5) t) (blk m ρ hr c (1 : Fin 5) t) (blk m ρ hr c (2 : Fin 5) t) (blk m ρ hr c (3 : Fin 5) t) (chain m ρ hr c t.val).1 (chain m ρ hr c t.val).2 k1 k2 k3 k4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; exact fun _ => (kept_B ..).trans (congrArg Prod.fst (chain_next m ρ hr c t h0)).symm
    isplitl [HS1]
    · iexists _; isplitr; swap
      · iexact HS1
      · ipureintro; exact fun _ => (sum_B ..).trans (congrArg Prod.snd (chain_next m ρ hr c t h0)).symm
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

set_option maxHeartbeats 4000000 in
theorem body_C (c : Dev nD) (t : Fin (cfgA m hr).N) (hl : Live m t.val) (h9 : t.val % 11 = 10) :
    given m ρ hr c t ⊢ wp frame (wpE (defs₀ (F := Ideal)) Variants.none c none) Set.univ (bodyAt m hr t) fun _ => returned m ρ hr c t := by
  have h0 : ¬t.val % 11 = 0 := by omega
  have i4 : (cfgA m hr).idle (4 : Fin 5) ((cfgA m hr).grid.coords t) = false := by rw [idle_at]; simp [h9]
  have f4 : ((cfgA m hr).win (4 : Fin 5)).flush t = true := by rw [flush_eq]; simp [h9]
  have k1 : k0_cond1 (crd m hr t) (loaded (tab1 m)) = 1#1 := by
    rw [loaded_eq, cond1_iff hr.le, crd0]; exact hl
  have k2 : ¬Scalar.cmpi .ne (Scalar.extui (Scalar.cmpi .eq (BitVec.ofNat 32 (crd m hr t 1).val) 0#32) : BitVec 32) 0#32 = 1#1 :=
    fun hz => h0 ((crd1 m hr t).symm.trans ((zero_iff (sliceOf (crd m hr t))).1 hz))
  have k3 : k0_cond3 (crd m hr t) = 1#1 := by
    rw [cond3_iff, crd1]; exact h9
  have k4 : ¬k0_cond4 (crd m hr t) (loaded (tab1 m)) = 1#1 := by
    rw [loaded_eq, cond4_iff hr.le, crd0, crd1]
    exact fun h => absurd h.1 (Nat.not_le.2 hl)
  have hh : Held m t.val := ⟨hl, h0⟩
  unfold given returned
  rw [bigSep_W0]
  rewrite [i4]
  simp only [before0, before1, before2, before3, before4, after0, after1, after2, after3, after4, f4]
  rewrite [show (dats m ρ hr 0 c).Φ t.succ = inv m ρ hr c t.succ from rfl, show (dats m ρ hr 0 c).Φ t.castSucc = inv m ρ hr c t.castSucc from rfl,
    show (dats m ρ hr 0 c).owesAt () t.succ = (dats m ρ hr 0 c).owesAt () t.castSucc from rfl]
  unfold inv
  simp only [Fin.val_castSucc, Fin.val_succ]
  simp only [exists_held hh]
  iintro ⟨⟨HS0, HS1, HT0, HT1⟩, Ho, ⟨%d0, H0⟩, ⟨%d1, H1⟩, ⟨%d2, H2⟩, ⟨%d3, H3⟩, ⟨%d4, H4⟩⟩
  iapply ((kernelRun0_C c (crd m hr t) (ms0 m hr t) (hs0 m hr t) (ms1 m hr t) (hs1 m hr t) (ms2 m hr t) (hs2 m hr t) (ms3 m hr t) (hs3 m hr t) (ms4 m hr t) (hs4 m hr t) (tab0 m) (tab1 m) (blk m ρ hr c (0 : Fin 5) t) (blk m ρ hr c (1 : Fin 5) t) (blk m ρ hr c (2 : Fin 5) t) (blk m ρ hr c (3 : Fin 5) t) (chain m ρ hr c t.val).1 (chain m ρ hr c t.val).2 k1 k2 k3 k4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; exact fun h => absurd h.2 (by omega)
    isplitl [HS1]
    · iexists _; isplitr; swap
      · iexact HS1
      · ipureintro; exact fun h => absurd h.2 (by omega)
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    exact (View.read_writes_of_cover _ _ _ _ _ (cover0_C_4 c _ _ _ _ _ _ _ _ _ _ _ _ _ _ _ _ _ _ _ _ _ _ _)).trans
      ((stored_C ..).trans ((congrArg Prod.snd (chain_next m ρ hr c t h0)).symm.trans (if_pos hl).symm))

set_option maxHeartbeats 4000000 in
theorem body_D (c : Dev nD) (t : Fin (cfgA m hr).N) (hl : ¬Live m t.val) (h9 : ¬t.val % 11 = 10) :
    given m ρ hr c t ⊢ wp frame (wpE (defs₀ (F := Ideal)) Variants.none c none) Set.univ (bodyAt m hr t) fun _ => returned m ρ hr c t := by
  have i4 : (cfgA m hr).idle (4 : Fin 5) ((cfgA m hr).grid.coords t) = true := by rw [idle_at]; simp [h9]
  have f4 : ((cfgA m hr).win (4 : Fin 5)).flush t = false := by rw [flush_eq]; simp [h9]
  have k1 : ¬k0_cond1 (crd m hr t) (loaded (tab1 m)) = 1#1 := by
    rw [loaded_eq, cond1_iff hr.le, crd0]; exact hl
  have k4 : ¬k0_cond4 (crd m hr t) (loaded (tab1 m)) = 1#1 := by
    rw [loaded_eq, cond4_iff hr.le, crd0, crd1]
    exact fun h => h9 h.2
  unfold given returned
  rw [bigSep_W0]
  rewrite [i4]
  simp only [before0, before1, before2, before3, before4, after0, after1, after2, after3, after4, f4]
  rewrite [show (dats m ρ hr 0 c).Φ t.succ = inv m ρ hr c t.succ from rfl, show (dats m ρ hr 0 c).Φ t.castSucc = inv m ρ hr c t.castSucc from rfl,
    show (dats m ρ hr 0 c).owesAt () t.succ = (dats m ρ hr 0 c).owesAt () t.castSucc from rfl]
  unfold inv
  simp only [Fin.val_castSucc, Fin.val_succ]
  iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
  iapply ((kernelRun0_D c (crd m hr t) (ms0 m hr t) (hs0 m hr t) (ms1 m hr t) (hs1 m hr t) (ms2 m hr t) (hs2 m hr t) (ms3 m hr t) (hs3 m hr t) (ms4 m hr t) (hs4 m hr t) (tab0 m) (tab1 m) (blk m ρ hr c (0 : Fin 5) t) (blk m ρ hr c (1 : Fin 5) t) (blk m ρ hr c (2 : Fin 5) t) (blk m ρ hr c (3 : Fin 5) t) a0 a1 k1 k4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; exact fun h => absurd h.1 (by unfold Live at hl ⊢; have := h.2; omega)
    isplitl [HS1]
    · iexists _; isplitr; swap
      · iexact HS1
      · ipureintro; exact fun h => absurd h.1 (by unfold Live at hl ⊢; have := h.2; omega)
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

set_option maxHeartbeats 4000000 in
theorem body_E (c : Dev nD) (t : Fin (cfgA m hr).N) (hl : ¬Live m t.val) (h9 : t.val % 11 = 10) :
    given m ρ hr c t ⊢ wp frame (wpE (defs₀ (F := Ideal)) Variants.none c none) Set.univ (bodyAt m hr t) fun _ => returned m ρ hr c t := by
  have i4 : (cfgA m hr).idle (4 : Fin 5) ((cfgA m hr).grid.coords t) = false := by rw [idle_at]; simp [h9]
  have f4 : ((cfgA m hr).win (4 : Fin 5)).flush t = true := by rw [flush_eq]; simp [h9]
  have k1 : ¬k0_cond1 (crd m hr t) (loaded (tab1 m)) = 1#1 := by
    rw [loaded_eq, cond1_iff hr.le, crd0]; exact hl
  have k4 : k0_cond4 (crd m hr t) (loaded (tab1 m)) = 1#1 := by
    rw [loaded_eq, cond4_iff hr.le, crd0, crd1]
    exact ⟨Nat.le_of_not_lt hl, h9⟩
  unfold given returned
  rw [bigSep_W0]
  rewrite [i4]
  simp only [before0, before1, before2, before3, before4, after0, after1, after2, after3, after4, f4]
  rewrite [show (dats m ρ hr 0 c).Φ t.succ = inv m ρ hr c t.succ from rfl, show (dats m ρ hr 0 c).Φ t.castSucc = inv m ρ hr c t.castSucc from rfl,
    show (dats m ρ hr 0 c).owesAt () t.succ = (dats m ρ hr 0 c).owesAt () t.castSucc from rfl]
  unfold inv
  simp only [Fin.val_castSucc, Fin.val_succ]
  iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
  iapply ((kernelRun0_E c (crd m hr t) (ms0 m hr t) (hs0 m hr t) (ms1 m hr t) (hs1 m hr t) (ms2 m hr t) (hs2 m hr t) (ms3 m hr t) (hs3 m hr t) (ms4 m hr t) (hs4 m hr t) (tab0 m) (tab1 m) (blk m ρ hr c (0 : Fin 5) t) (blk m ρ hr c (1 : Fin 5) t) (blk m ρ hr c (2 : Fin 5) t) (blk m ρ hr c (3 : Fin 5) t) a0 a1 k1 k4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; exact fun h => absurd h.2 (by omega)
    isplitl [HS1]
    · iexists _; isplitr; swap
      · iexact HS1
      · ipureintro; exact fun h => absurd h.2 (by omega)
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    exact (View.read_writes_of_cover _ _ _ _ _ (cover0_E_4 c _ _ _ _ _ _ _ _ _ _ _ _ _ _ _ _ _ _ _ _ _)).trans
      ((stored_E ..).trans (if_neg hl).symm)

theorem body_at (c : Dev nD) (t : Fin (cfgA m hr).N) :
    given m ρ hr c t ⊢ wp frame (wpE (defs₀ (F := Ideal)) Variants.none c none) Set.univ (bodyAt m hr t) fun _ => returned m ρ hr c t := by
  by_cases hl : Live m t.val
  · by_cases h0 : t.val % 11 = 0
    · exact body_A m ρ hr c t hl h0
    · by_cases h9 : t.val % 11 = 10
      · exact body_C m ρ hr c t hl h9
      · exact body_B m ρ hr c t hl h0 h9
  · by_cases h9 : t.val % 11 = 10
    · exact body_E m ρ hr c t hl h9
    · exact body_D m ρ hr c t hl h9

theorem obligation (c : Dev nD) : BodyObligation (dats m ρ hr 0 c) (defs₀ (F := Ideal)) Variants.none () Set.univ := fun t => by
  have h := body_at m ρ hr c t
  unfold given returned at h
  rw [bigSep_W0]
  exact h

/-! ## The launch -/

/-- The resources at the start. -/
def start : UR sig nD τ :=
  initOf (Pipeline.cells (pcs m hr) ((launch0 (F := Ideal)).cellOf_inj fun _ => adm m hr))
    (Pipeline.launchToks (pcs m hr) ((launch0 (F := Ideal)).cellOf_inj fun _ => adm m hr))

theorem share_full (c : Dev nD) (w : Fin (cfgA m hr).W) : (dats m ρ hr 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg4) ↦{q 0} v 0) ∗ (((c : Thread nD τ).loc main_arg5) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m hr).1 ∗ Pipeline.scopedRest spec0 c) ⊢ (dats m ρ hr 0 c).Φ 0 := by
  rw [tables_held, scopedRest0_eq, show (dats m ρ hr 0 c).Φ 0 = inv m ρ hr c 0 from rfl]
  unfold inv
  iintro ⟨-, ⟨HT0, HT1⟩, ⟨%a0, HS0⟩, ⟨%a1, HS1⟩⟩
  isplitl [HS0]
  · iexists a0; isplitr; swap
    · iexact HS0
    · ipureintro; exact fun h => absurd rfl h.2
  isplitl [HS1]
  · iexists a1; isplitr; swap
    · iexact HS1
    · ipureintro; exact fun h => absurd rfl h.2
  isplitl [HT0]
  · iexact HT0
  iexact HT1

theorem leave (c : Dev nD) : (dats m ρ hr 0 c).Φ (Fin.last (cfgA m hr).N) ⊢ iprop(BI.emp ∗ Pipeline.scopedRest spec0 c) := by
  rw [scopedRest0_eq, show (dats m ρ hr 0 c).Φ (Fin.last (cfgA m hr).N) = inv m ρ hr c (Fin.last _) from rfl]
  unfold inv
  iintro ⟨⟨%a0, -, HS0⟩, ⟨%a1, -, HS1⟩, -, -⟩
  isplitr; · iempintro
  isplitl [HS0]
  · iexists a0; iexact HS0
  iexists a1; iexact HS1

/-- What a run ends in: each window's array at what the pipeline left there, each table as it was. -/
def Ended : PUnit × MemSt nD τ sig (Elt Ideal) → Prop := fun r =>
  ∀ c : Dev nD, (∀ w : Fin (cfgA m hr).W, r.2.mem (((cfgA m hr).win w).arr.view.loc (c : Thread nD τ)) = (dats m ρ hr 0 c).arrAt w (cfgA m hr).N)
    ∧ ∀ j, r.2.mem ((c : Thread nD τ).loc (pre0.ref j)) = (adm m hr).1 j

theorem tables_eq (c : Dev nD) (j : Fin 2) : m ((c : Thread nD τ).loc (pre0.ref j)) = (adm m hr).1 j := by
  obtain rfl : c = 0 := Subsingleton.elim _ _
  fin_cases j <;> rfl

set_option backward.isDefEq.respectTransparency.types false in
set_option maxHeartbeats 4000000 in
/-- Every run ends so, with every semaphore at zero. -/
theorem ends : θ_run (defs (F := Ideal)) (onTc (τ := τ) (main (F := Ideal))) (s₀ m ρ) (fun r => Ended m ρ hr r ∧ r.2.sem = fun _ => 0) :=
  Pipeline.θ_run_region_noSem_pf_quiescent pcfgs (fun _ => adm m hr) (dats m ρ hr) () ((launch0 (F := Ideal)).cellOf_inj fun _ => adm m hr) (0 : Fin 1)
    (launch0 (F := Ideal)).win.to₀ (launch0 (F := Ideal)).pre cellsIn defs₀ Variants.none m ρ main
    (hbody := fun c => (obligation m ρ hr c).loose) (hne := (launch0 (F := Ideal)).block_pos)
    (harr := (launch0 (F := Ideal)).arr_whole) (hstage := (launch0 (F := Ideal)).stage_whole) (howed := fun _ _ => rfl)
    (u₀ := start m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m ρ hr) 0 (launch0 (F := Ideal)).win.arr_inj c (launch0 (F := Ideal)).arr_whole
      (share_full m ρ hr c) _ _ fun _ => rfl)
    (hpf := tables_eq m hr)
    (X := fun _ => iprop(emp)) (Y := fun _ => iprop(emp)) (Z := fun _ => iprop(emp))
    (hX := fun c => by rw [unscopedRestP0_eq]; iintro -; isplitr <;> iempintro)
    (hin := enter m ρ hr)
    (hout := leave m ρ hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The arguments end as they were, every semaphore at zero. -/
theorem unchanged :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).1 (0 : Fin 5)).trans ((dats m ρ hr 0 c).arrAt_in (0 : Fin 5) rfl _),
      ((h.1 c).1 (1 : Fin 5)).trans ((dats m ρ hr 0 c).arrAt_in (1 : Fin 5) rfl _),
      ((h.1 c).1 (2 : Fin 5)).trans ((dats m ρ hr 0 c).arrAt_in (2 : Fin 5) rfl _),
      ((h.1 c).1 (3 : Fin 5)).trans ((dats m ρ hr 0 c).arrAt_in (3 : Fin 5) rfl _),
      ((h.1 c).2 0).trans (tables_eq m hr c 0).symm, ((h.1 c).2 1).trans (tables_eq m hr c 1).symm⟩, h.2⟩)
    (ends m ρ hr)

end Cert.KernelIdeal.Expert

end
-- ==== Proof.ExpertValue.lean ====
/- The expert kernel's result: each row of a tile in use gets the feed-forward product of its tile's expert, summed over
   the slices of the hidden features; the other rows get zero. -/
module

public import proofs.«01_k».proof.Proof.ExpertSpec
public import proofs.«01_k».proof.Proof.ExpertFrame
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.Expert

open Idealize.ShloMosaic Idealize.ShloMosaic.TcCoe Idealize.SL.Sem
open Cert.KernelIdeal Cert.KernelIdeal.Gen Cert.Dense Cert.Expert

/-! ## The body's numbers -/

/-- The kept rows are the block's. -/
theorem keep_apply (x : Vec Ideal S512x2048 .f32) (r : Fin 512) (d : Fin 2048) : k0_pay1 x (ix2 r d) = x (ix2 r d) := by
  pointwise [k0_pay1]

/-- The sum starts from zero. -/
theorem start_apply (r : Fin 512) (e : Fin 2048) : (k0_pay2 : FVec Ideal S512x2048 .f32) (ix2 r e) = 0 := by
  pointwise [k0_pay2]

/-- A tile that is not in use gets zero. -/
theorem none_apply (r : Fin 512) (e : Fin 2048) : (k0_pay4 : FVec Ideal S512x2048 .f32) (ix2 r e) = 0 := by
  pointwise [k0_pay4]

/-- A slice adds its gated numbers' product to the sum. -/
theorem add_apply (s : Vec Ideal S512x2048 .f32) (h : Vec Ideal S512x2048 .bf16) (w1 w3 : Vec Ideal S1x2048x512 .bf16)
    (w2 : Vec Ideal S1x512x2048 .bf16) (r : Fin 512) (e : Fin 2048) : k0_pay3 s h w1 w3 w2 (ix2 r e)
      = s (ix2 r e) + ∑ k : Fin 512, gate (∑ d : Fin 2048, h (ix2 r d) * w1 (ix3 0 d k)) (∑ d : Fin 2048, h (ix2 r d) * w3 (ix3 0 d k))
        * w2 (ix3 0 k e) := by
  pointwise [k0_pay3, gate]
  simp only [zero_sub]

variable (m : (ℓ : Loc nD τ sig) → Buf (Elt Ideal) ℓ) (ρ : Dev nD → PrngReg) (hr : Routed m) (c : Dev nD)

/-- The arguments by name: the sorted rows, -/
abbrev X : S36864x2048.Idx → EReal := m ((c : Thread nD τ).loc main_arg0)
/-- the first weights, -/
abbrev W1 : S8x2048x5632.Idx → EReal := m ((c : Thread nD τ).loc main_arg1)
/-- the third weights, -/
abbrev W3 : S8x2048x5632.Idx → EReal := m ((c : Thread nD τ).loc main_arg2)
/-- and the second weights. -/
abbrev W2 : S8x5632x2048.Idx → EReal := m ((c : Thread nD τ).loc main_arg3)

/-- Tile `j`'s expert. -/
abbrev ex (j : Fin 72) : Fin 8 := ⟨expert (tab0 m) j, hr.lt j⟩

/-! ## The blocks -/

theorem tile_lt (t : Fin (cfgA m hr).N) : t.val / 11 < 72 := by
  have h : t.val < 792 := lt_of_lt_of_eq t.isLt (show grid0.N = 792 from N_0)
  omega

theorem index0 (t : Fin (cfgA m hr).N) (j : Fin 72) (hj : t.val / 11 = j) (hl : j.val < used (tab1 m)) :
    ((cfgA m hr).win (0 : Fin 5)).index t = ![j.val, 0] := by
  refine (transform_0_eq (tabs m) hr.pos hr.le (crd m hr t)).trans ?_
  rw [crd0, hj]
  have : min j.val (used (tab1 m) - 1) = j.val := by omega
  exact congrArg (fun n : ℕ => (![n, 0] : Fin 2 → ℕ)) this

theorem tileOf_eq (t : Fin (cfgA m hr).N) (j : Fin 72) (hj : t.val / 11 = j) : tileOf (crd m hr t) = j :=
  Fin.ext ((crd0 m hr t).trans hj)

theorem index1 (t : Fin (cfgA m hr).N) (j : Fin 72) (hj : t.val / 11 = j) (hl : j.val < used (tab1 m)) (f : Fin 11) (hf : t.val % 11 = f) :
    ((cfgA m hr).win (1 : Fin 5)).index t = ![(ex m hr j).val, 0, f.val] := by
  refine (transform_1_eq (tabs m) hr.le (crd m hr t)).trans ?_
  rw [tileOf_eq m hr t j hj, crd0, crd1, hj, hf]
  exact congrArg (fun n : ℕ => (![expert (tab0 m) j, 0, n] : Fin 3 → ℕ)) (if_pos hl)

theorem index2 (t : Fin (cfgA m hr).N) (j : Fin 72) (hj : t.val / 11 = j) (hl : j.val < used (tab1 m)) (f : Fin 11) (hf : t.val % 11 = f) :
    ((cfgA m hr).win (2 : Fin 5)).index t = ![(ex m hr j).val, 0, f.val] := by
  refine (transform_2_eq (tabs m) hr.le (crd m hr t)).trans ?_
  rw [tileOf_eq m hr t j hj, crd0, crd1, hj, hf]
  exact congrArg (fun n : ℕ => (![expert (tab0 m) j, 0, n] : Fin 3 → ℕ)) (if_pos hl)

theorem index3 (t : Fin (cfgA m hr).N) (j : Fin 72) (hj : t.val / 11 = j) (hl : j.val < used (tab1 m)) (f : Fin 11) (hf : t.val % 11 = f) :
    ((cfgA m hr).win (3 : Fin 5)).index t = ![(ex m hr j).val, f.val, 0] := by
  refine (transform_3_eq (tabs m) hr.le (crd m hr t)).trans ?_
  rw [tileOf_eq m hr t j hj, crd0, crd1, hj, hf]
  exact congrArg (fun n : ℕ => (![expert (tab0 m) j, n, 0] : Fin 3 → ℕ)) (if_pos hl)

theorem indices4 : ∀ t : Fin grid0.N, cc0_transform_4 (grid0.coords t) = ![t.val / 11, 0] := by
  decide +kernel

theorem index4 (t : Fin (cfgA m hr).N) : ((cfgA m hr).win (4 : Fin 5)).index t = ![t.val / 11, 0] := indices4 t

/-- A number of the rows' block. -/
theorem blk0 (t : Fin (cfgA m hr).N) (j : Fin 72) (hj : t.val / 11 = j) (hl : j.val < used (tab1 m)) (r : Fin 512) (d : Fin 2048) :
    (blk m ρ hr c (0 : Fin 5) t : Vec Ideal S512x2048 .f32) (ix2 r d) = X m c (ix2 ⟨j * 512 + r, by omega⟩ d) := by
  refine congrArg (X m c) (funext fun a => Fin.ext ?_)
  refine (Pipeline.Window.rect_emb_val ((cfgA m hr).win (0 : Fin 5)) t (ix2 r d) a).trans ?_
  rw [index0 m hr t j hj hl]
  fin_cases a
  · rfl
  · show 0 * 2048 + d.val = d.val
    omega

/-- A number of the first weights' block. -/
theorem blk1 (t : Fin (cfgA m hr).N) (j : Fin 72) (hj : t.val / 11 = j) (hl : j.val < used (tab1 m)) (f : Fin 11) (hf : t.val % 11 = f)
    (d : Fin 2048) (k : Fin 512) :
    (blk m ρ hr c (1 : Fin 5) t : Vec Ideal S1x2048x512 .bf16) (ix3 0 d k) = W1 m c (ix3 (ex m hr j) d ⟨f * 512 + k, by omega⟩) := by
  refine congrArg (W1 m c) (funext fun a => Fin.ext ?_)
  refine (Pipeline.Window.rect_emb_val ((cfgA m hr).win (1 : Fin 5)) t (ix3 0 d k) a).trans ?_
  rw [index1 m hr t j hj hl f hf]
  fin_cases a
  · show (ex m hr j).val * 1 + 0 = (ex m hr j).val
    omega
  · show 0 * 2048 + d.val = d.val
    omega
  · rfl

/-- A number of the third weights' block. -/
theorem blk2 (t : Fin (cfgA m hr).N) (j : Fin 72) (hj : t.val / 11 = j) (hl : j.val < used (tab1 m)) (f : Fin 11) (hf : t.val % 11 = f)
    (d : Fin 2048) (k : Fin 512) :
    (blk m ρ hr c (2 : Fin 5) t : Vec Ideal S1x2048x512 .bf16) (ix3 0 d k) = W3 m c (ix3 (ex m hr j) d ⟨f * 512 + k, by omega⟩) := by
  refine congrArg (W3 m c) (funext fun a => Fin.ext ?_)
  refine (Pipeline.Window.rect_emb_val ((cfgA m hr).win (2 : Fin 5)) t (ix3 0 d k) a).trans ?_
  rw [index2 m hr t j hj hl f hf]
  fin_cases a
  · show (ex m hr j).val * 1 + 0 = (ex m hr j).val
    omega
  · show 0 * 2048 + d.val = d.val
    omega
  · rfl

/-- A number of the second weights' block. -/
theorem blk3 (t : Fin (cfgA m hr).N) (j : Fin 72) (hj : t.val / 11 = j) (hl : j.val < used (tab1 m)) (f : Fin 11) (hf : t.val % 11 = f)
    (k : Fin 512) (e : Fin 2048) :
    (blk m ρ hr c (3 : Fin 5) t : Vec Ideal S1x512x2048 .bf16) (ix3 0 k e) = W2 m c (ix3 (ex m hr j) ⟨f * 512 + k, by omega⟩ e) := by
  refine congrArg (W2 m c) (funext fun a => Fin.ext ?_)
  refine (Pipeline.Window.rect_emb_val ((cfgA m hr).win (3 : Fin 5)) t (ix3 0 k e) a).trans ?_
  rw [index3 m hr t j hj hl f hf]
  fin_cases a
  · show (ex m hr j).val * 1 + 0 = (ex m hr j).val
    omega
  · rfl
  · show 0 * 2048 + e.val = e.val
    omega

/-! ## The sum over a tile's slices -/

/-- What slice `f` adds to a number of tile `j`. -/
def part (j : Fin 72) (r : Fin 512) (e : Fin 2048) (f : Fin 11) : EReal :=
  ∑ k : Fin 512, hid (X m c) (W1 m c) (W3 m c) (ex m hr j) ⟨j * 512 + r, by omega⟩ ⟨f * 512 + k, by omega⟩
    * W2 m c (ix3 (ex m hr j) ⟨f * 512 + k, by omega⟩ e)

/-- What a point's body adds, where the kept rows are the tile's. -/
theorem part_eq (t : Fin (cfgA m hr).N) (j : Fin 72) (hj : t.val / 11 = j) (hl : j.val < used (tab1 m)) (f : Fin 11) (hf : t.val % 11 = f)
    (h : Vec Ideal S512x2048 .bf16) (hh : ∀ (r : Fin 512) (d : Fin 2048), h (ix2 r d) = X m c (ix2 ⟨j * 512 + r, by omega⟩ d))
    (s : Vec Ideal S512x2048 .f32) (r : Fin 512) (e : Fin 2048) :
    k0_pay3 s h (blk m ρ hr c (1 : Fin 5) t) (blk m ρ hr c (2 : Fin 5) t) (blk m ρ hr c (3 : Fin 5) t) (ix2 r e)
      = s (ix2 r e) + part m hr c j r e f := by
  refine (add_apply s h (blk m ρ hr c (1 : Fin 5) t) (blk m ρ hr c (2 : Fin 5) t) (blk m ρ hr c (3 : Fin 5) t) r e).trans
    (congrArg (s (ix2 r e) + ·) (Finset.sum_congr rfl fun k _ => ?_))
  refine congrArg₂ (fun x y : EReal => x * y) (congrArg₂ gate ?_ ?_) (blk3 m ρ hr c t j hj hl f hf k e)
  · exact Finset.sum_congr rfl fun d _ => congrArg₂ (fun x y : EReal => x * y) (hh r d) (blk1 m ρ hr c t j hj hl f hf d k)
  · exact Finset.sum_congr rfl fun d _ => congrArg₂ (fun x y : EReal => x * y) (hh r d) (blk2 m ρ hr c t j hj hl f hf d k)

/-- After slice `f` of a tile in use the kept rows are the tile's and the sum is that of the slices so far. -/
theorem slices (j : Fin 72) (hl : j.val < used (tab1 m)) : ∀ (f : ℕ) (hf : f + 1 ≤ 11),
    (∀ (r : Fin 512) (d : Fin 2048), ((chain m ρ hr c (11 * j.val + f + 1)).1 : S512x2048.Idx → EReal) (ix2 r d) = X m c (ix2 ⟨j * 512 + r, by omega⟩ d))
    ∧ ∀ (r : Fin 512) (e : Fin 2048), ((chain m ρ hr c (11 * j.val + f + 1)).2 : S512x2048.Idx → EReal) (ix2 r e)
        = ∑ s : Fin (f + 1), part m hr c j r e (Fin.castLE hf s)
  | 0, hf => by
    have hN : 11 * j.val + 0 < grid0.N := lt_of_lt_of_eq (by omega) (show grid0.N = 792 from N_0).symm
    have h := chain_first m ρ hr c ⟨11 * j.val + 0, hN⟩ (by show (11 * j.val + 0) % 11 = 0; omega)
    have hj : (11 * j.val + 0) / 11 = j.val := by omega
    have hk : ∀ (r : Fin 512) (d : Fin 2048), (k0_pay1 (blk m ρ hr c (0 : Fin 5) ⟨11 * j.val + 0, hN⟩) : S512x2048.Idx → EReal) (ix2 r d)
        = X m c (ix2 ⟨j * 512 + r, by omega⟩ d) := fun r d =>
      (keep_apply _ r d).trans (blk0 m ρ hr c ⟨11 * j.val + 0, hN⟩ j hj hl r d)
    refine ⟨fun r d => (congrFun (congrArg Prod.fst h) (ix2 r d)).trans (hk r d), fun r e => ?_⟩
    refine (congrFun (congrArg Prod.snd h) (ix2 r e)).trans ?_
    refine (part_eq m ρ hr c ⟨11 * j.val + 0, hN⟩ j hj hl 0 (by show (11 * j.val + 0) % 11 = 0; omega) _ hk _ r e).trans ?_
    rw [start_apply, zero_add, Fin.sum_univ_one]
    rfl
  | f + 1, hf => by
    obtain ⟨i1, i2⟩ := slices j hl f (by omega)
    have hN : 11 * j.val + (f + 1) < grid0.N := lt_of_lt_of_eq (by omega) (show grid0.N = 792 from N_0).symm
    have h := chain_next m ρ hr c ⟨11 * j.val + (f + 1), hN⟩ (by show ¬(11 * j.val + (f + 1)) % 11 = 0; omega)
    have hj : (11 * j.val + (f + 1)) / 11 = j.val := by omega
    refine ⟨fun r d => (congrFun (congrArg Prod.fst h) (ix2 r d)).trans (i1 r d), fun r e => ?_⟩
    refine (congrFun (congrArg Prod.snd h) (ix2 r e)).trans ?_
    refine (part_eq m ρ hr c ⟨11 * j.val + (f + 1), hN⟩ j hj hl ⟨f + 1, by omega⟩ (by show (11 * j.val + (f + 1)) % 11 = f + 1; omega) _ i1 _ r e).trans ?_
    rw [Fin.sum_univ_castSucc]
    exact congrArg₂ (fun x y : EReal => x + y) (i2 r e) rfl

/-- After the last slice the sum is the expert's whole product. -/
theorem whole (j : Fin 72) (hl : j.val < used (tab1 m)) (r : Fin 512) (e : Fin 2048) :
    ((chain m ρ hr c (11 * j.val + 10 + 1)).2 : S512x2048.Idx → EReal) (ix2 r e)
      = ffn (X m c) (W1 m c) (W3 m c) (W2 m c) (ex m hr j) ⟨j * 512 + r, by omega⟩ e := by
  refine ((slices m ρ hr c j hl 10 (by omega)).2 r e).trans ?_
  exact Fin.sum_mul_add_fin 11 512 (fun f : Fin 5632 => hid (X m c) (W1 m c) (W3 m c) (ex m hr j) ⟨j * 512 + r, by omega⟩ f
    * W2 m c (ix3 (ex m hr j) f e)) (by decide)

/-- What a tile's last point stores. -/
theorem stored (t : Fin (cfgA m hr).N) (ht : t.val % 11 = 10) (j : Fin 72) (hj : t.val / 11 = j) (r : Fin 512) (e : Fin 2048) :
    left m ρ hr c t (ix2 r e)
      = rows (X m c) (W1 m c) (W3 m c) (W2 m c) (tab0 m) (tab1 m) hr ⟨j * 512 + r, by omega⟩ e := by
  have hT : tile ⟨j.val * 512 + r.val, by omega⟩ = j := Fin.ext (by show (j.val * 512 + r.val) / 512 = j.val; omega)
  unfold left rows
  simp only [hT]
  by_cases hl : j.val < used (tab1 m)
  · rw [if_pos (show Live m t.val by show t.val / 11 < _; rw [hj]; exact hl), if_pos hl]
    have h := whole m ρ hr c j hl r e
    rw [show 11 * j.val + 10 + 1 = t.val + 1 by omega] at h
    exact h
  · rw [if_neg (show ¬Live m t.val by show ¬t.val / 11 < _; rw [hj]; exact hl), if_neg hl]
    exact none_apply r e

/-- The blocks written back cover the result. -/
theorem covers : ((cfgA m hr).win (4 : Fin 5)).Covers := by
  refine ⟨fun a => by fin_cases a; exacts [show 0 < 512 by decide, show 0 < 2048 by decide], fun β => ?_⟩
  have h0 : (β 0).val < 72 := lt_of_lt_of_eq (β 0).isLt (show (36864 + 512 - 1) / 512 = 72 by decide)
  have h1 : (β 1).val < 1 := lt_of_lt_of_eq (β 1).isLt (show (2048 + 2048 - 1) / 2048 = 1 by decide)
  have hN : 11 * (β 0).val + 10 < grid0.N := lt_of_lt_of_eq (by omega) (show grid0.N = 792 from N_0).symm
  refine ⟨⟨11 * (β 0).val + 10, hN⟩, ?_, fun a => ⟨?_, .inl ?_⟩⟩
  · rw [flush_eq]
    exact decide_eq_true (by show (11 * (β 0).val + 10) % 11 = 10; omega)
  · rw [index4]
    fin_cases a
    · show (11 * (β 0).val + 10) / 11 = (β 0).val
      omega
    · show 0 = (β 1).val
      omega
  · rfl

/-- The result array after all grid points. -/
theorem final : ((dats m ρ hr 0 c).arrAt (4 : Fin 5) (cfgA m hr).N : S36864x2048.Idx → EReal)
    = mixture (X m c) (W1 m c) (W3 m c) (W2 m c) (tab0 m) (tab1 m) hr := by
  refine (dats m ρ hr 0 c).arrAt_eq_of_covers (4 : Fin 5) _ (covers m hr) fun t hf y => ?_
  have ht : t.val % 11 = 10 := by rw [flush_eq] at hf; exact of_decide_eq_true hf
  have hj := tile_lt m hr t
  have h0 : (y 0).val < 512 := (y 0).isLt
  have h1 : (y 1).val < 2048 := (y 1).isLt
  have he : (((cfgA m hr).win (4 : Fin 5)).blk t).view.emb y = ix2 ⟨t.val / 11 * 512 + (y 0).val, by omega⟩ ⟨(y 1).val, h1⟩ := by
    refine funext fun a => Fin.ext ?_
    refine (Pipeline.Window.rect_emb_val ((cfgA m hr).win (4 : Fin 5)) t y a).trans ?_
    rw [index4]
    fin_cases a
    · rfl
    · show 0 * 2048 + (y 1).val = (y 1).val
      omega
  have hy : y = ix2 ⟨(y 0).val, h0⟩ ⟨(y 1).val, h1⟩ := by
    refine funext fun a => ?_
    fin_cases a <;> rfl
  rw [he]
  refine (show _ = left m ρ hr c t y from rfl).trans ((congrArg (left m ρ hr c t) hy).trans ?_)
  exact stored m ρ hr c t ht ⟨t.val / 11, hj⟩ rfl _ _

end Cert.KernelIdeal.Expert

end
-- ==== Proof.ExpertWords.lean ====
/- The words of the experts' reference: a row's tile, whether it is in use, and the tile's expert. -/
module

public import proofs.«01_k».proof.Proof.ExpertSpec
public import proofs.«01_k».proof.Proof.Gen.ReferenceIdeal.Run
public import Idealize.ShloMosaic.Lib.Pointwise
public import Idealize.ShloMosaic.Lib.IdealHost
public import Idealize.ShloMosaic.Lib.Pipeline.ValueKit
public import Idealize.ShloMosaic.Lib.Routing.OpsSearch

@[expose] public section

set_option maxRecDepth 16384

noncomputable section

namespace Cert.ReferenceIdeal.Expert

open Idealize.ShloMosaic Idealize.ShloMosaic.TcCoe Idealize.SL.Sem
open Cert.ReferenceIdeal Cert.ReferenceIdeal.Gen Cert.ReferenceIdeal.Value Cert.Dense Cert.Expert
open Cert.KernelIdeal.Expert (Routing used expert word word_eq slt_iff entry s1_one)

/-- The floor division of a row's number by the tile's height, as it is spelt. -/
def quotient (x d : BitVec 32) : BitVec 32 :=
  Scalar.select (IntOp.andi (IntOp.cmpi .ne (if x = 0 then (0 : BitVec 32) else if x.msb = true then -1 else 1)
      (if d = 0 then (0 : BitVec 32) else if BitVec.msb d = true then -1 else 1)) (IntOp.cmpi .ne (IntOp.remsi .host x d) 0#32))
    (IntOp.subi (IntOp.divsi .host x d) 1#32) (IntOp.divsi .host x d)

theorem quotient_eq : ∀ (j : Fin 72) (r : Fin 512), quotient (BitVec.ofNat 32 (512 * j.val + r.val)) 512#32 = BitVec.ofNat 32 j.val := by
  decide +kernel

theorem wrap_eq : ∀ j : Fin 72, Scalar.select (IntOp.cmpi .slt (BitVec.ofNat 32 j.val) 0#32)
    (IntOp.addi (BitVec.ofNat 32 j.val) 72#32) (BitVec.ofNat 32 j.val) = BitVec.ofNat 32 j.val := by
  decide +kernel

variable (V : Valuation τ sig (Elt Ideal))

/-- A row's tile. -/
theorem tile_word (n : Fin 36864) : res_main_v1 V (ix1 n) = BitVec.ofNat 32 (tile n).val := by
  refine Eq.trans ?_ ((congrArg (fun k : ℕ => quotient (BitVec.ofNat 32 k) 512#32) (show n.val = 512 * (tile n).val + n.val % 512 from
    (Nat.div_add_mod n.val 512).symm)).trans (quotient_eq (tile n) ⟨n.val % 512, Nat.mod_lt _ (by decide)⟩))
  pointwise [res_main_v1, res_main_v0, res_main_call0_v2, res_main_call0_v0]
  rfl

/-- A row's expert. -/
theorem expert_word (n : Fin 36864) : res_main_v8 V (ix1 n) = V (Proc.devRef .tc main_arg4) (ix1 (tile n)) := by
  refine Routing.take_ap gather_S72_S36864x1_S36864_n_0_n_n_0_1_1 rfl rfl rfl rfl _ _ n (tile n).isLt
    (lt_trans (tile n).isLt (by decide)) ?_
  refine Eq.trans ?_ (wrap_eq (tile n))
  rw [← tile_word V n]
  pointwise []

/-- Whether a row's tile is in use. -/
theorem live_word (n : Fin 36864) : res_main_v11 V (ix1 n)
    = IntOp.cmpi .slt (BitVec.ofNat 32 (tile n).val) (V (Proc.devRef .tc main_arg5) (ix1 0)) := by
  rw [← tile_word V n]
  pointwise [res_main_v11]

end Cert.ReferenceIdeal.Expert

end
-- ==== Proof.ExpertRef.lean ====
/- The reference of the experts: for every expert the gated feed-forward product of all rows, kept where the row's tile is
   in use and is that expert's; the sum over the experts is the product of the row's own expert. -/
module

public import proofs.«01_k».proof.Proof.ExpertWords
public import Idealize.ShloMosaic.Lib.Pointwise
public import Idealize.ShloMosaic.Lib.IdealHost
public import Idealize.ShloMosaic.Lib.Pipeline.ValueKit

@[expose] public section

set_option maxRecDepth 16384

noncomputable section

namespace Cert.ReferenceIdeal.Expert

open Idealize.ShloMosaic Idealize.ShloMosaic.TcCoe Idealize.SL.Sem
open Cert.ReferenceIdeal Cert.ReferenceIdeal.Gen Cert.ReferenceIdeal.Value Cert.Dense Cert.Expert
open Cert.KernelIdeal.Expert (Routing used expert word word_eq slt_iff entry s1_one)

/-- The gated hidden numbers of all rows, under one expert's weights. -/
def hidden (x : FVec Ideal S36864x2048 .f32) (a g : FVec Ideal S2048x5632 .f32) : FVec Ideal S36864x5632 .f32 :=
  mulf (mulf (Host.dotGeneral dot_S36864x2048_S2048x5632_S36864x5632_1_0_0_1_n_n none x a) (Host.divf (broadcastInDim S36864x5632 ![] bcast_S_S36864x5632 (constant S_ .f32 0x3F800000#32)) (addf (broadcastInDim S36864x5632 ![] bcast_S_S36864x5632 (constant S_ .f32 0x3F800000#32)) (Host.exp (Host.negf (Host.dotGeneral dot_S36864x2048_S2048x5632_S36864x5632_1_0_0_1_n_n none x a)))))) (Host.dotGeneral dot_S36864x2048_S2048x5632_S36864x5632_1_0_0_1_n_n none x g)

/-- One expert's product, kept in its own rows. -/
def kept (live : IVec S36864 1) (own : IVec S36864 32) (k : BitVec 32) (x : FVec Ideal S36864x2048 .f32) (a g : FVec Ideal S2048x5632 .f32)
    (b : FVec Ideal S5632x2048 .f32) : FVec Ideal S36864x2048 .f32 :=
  select (broadcastInDim S36864x2048 ![0, 1] bcast_S36864x1_S36864x2048_0_1 (broadcastInDim S36864x1 ![0] bcast_S36864_S36864x1_0 (andi live (cmpi .eq own (broadcastInDim S36864 ![] bcast_S_S36864 (constantI S_ 32 k))))))
    (Host.dotGeneral dot_S36864x5632_S5632x2048_S36864x2048_1_0_0_1_n_n none (hidden x a g) b)
    (broadcastInDim S36864x2048 ![] bcast_S_S36864x2048 (id (constant S_ .f32 0x00000000#32)))

theorem hidden_apply (x : FVec Ideal S36864x2048 .f32) (a g : FVec Ideal S2048x5632 .f32) (n : Fin 36864) (f : Fin 5632) :
    hidden x a g (ix2 n f) = gate (∑ d : Fin 2048, x (ix2 n d) * a (ix2 d f)) (∑ d : Fin 2048, x (ix2 n d) * g (ix2 d f)) := by
  rw [← silu]
  pointwise [hidden]

theorem both_iff : ∀ (b : BitVec 1) (x y : BitVec 32), IntOp.andi b (IntOp.cmpi .eq x y) = 1#1 ↔ b = 1#1 ∧ x = y := fun b x y => by
  have bit : ∀ b c : BitVec 1, b &&& c = 1#1 ↔ b = 1#1 ∧ c = 1#1 := by decide
  exact (bit _ _).trans (and_congr_right fun _ => by
    simp only [IntOp.cmpi]
    by_cases h : x = y
    · simp [h]
    · rw [beq_eq_false_iff_ne.mpr h]
      exact ⟨fun e => absurd e (by decide), fun e => absurd e h⟩)

theorem kept_apply (live : IVec S36864 1) (own : IVec S36864 32) (k : BitVec 32) (x : FVec Ideal S36864x2048 .f32) (a g : FVec Ideal S2048x5632 .f32)
    (b : FVec Ideal S5632x2048 .f32) (n : Fin 36864) (e : Fin 2048) : kept live own k x a g b (ix2 n e)
      = if live (ix1 n) = 1#1 ∧ own (ix1 n) = k then ∑ f : Fin 5632, hidden x a g (ix2 n f) * b (ix2 f e) else 0 := by
  simp only [← both_iff]
  have zero : (id (constant (F := Ideal) S_ .f32 0x00000000#32)) ix0 = (0 : EReal) := Ideal.ofBits_zero_f32
  pointwise [kept]
  rw [zero]
  rfl

/-- One expert's first or third weight. -/
theorem slice13 (i : Fin 8) (w : FVec Ideal S8x2048x5632 .f32) (h h') (d : Fin 2048) (f : Fin 5632) :
    shapeCast S2048x5632 (extractStridedSlice S1x2048x5632 ![i.val, 0, 0] w h) h' (ix2 d f) = w (ix3 i d f) := by
  pointwise []

/-- One expert's second weight. -/
theorem slice2 (i : Fin 8) (w : FVec Ideal S8x5632x2048 .f32) (h h') (f : Fin 5632) (e : Fin 2048) :
    shapeCast S5632x2048 (extractStridedSlice S1x5632x2048 ![i.val, 0, 0] w h) h' (ix2 f e) = w (ix3 i f e) := by
  pointwise []

variable (V : Valuation τ sig (Elt Ideal))

/-- Expert `i`'s part of the sum. -/
def part (i : Fin 8) (h : S8x2048x5632.Slices ![i.val, 0, 0] S1x2048x5632) (h' : S1x2048x5632.ShapeCasts S2048x5632)
    (h'' : S8x5632x2048.Slices ![i.val, 0, 0] S1x5632x2048) (h''' : S1x5632x2048.ShapeCasts S5632x2048) : FVec Ideal S36864x2048 .f32 :=
  kept (res_main_v11 V) (res_main_v8 V) (BitVec.ofNat 32 i.val) (V (Proc.devRef .tc main_arg0))
    (shapeCast S2048x5632 (extractStridedSlice S1x2048x5632 ![i.val, 0, 0] (res_main_v12 V) h) h')
    (shapeCast S2048x5632 (extractStridedSlice S1x2048x5632 ![i.val, 0, 0] (res_main_v13 V) h) h')
    (shapeCast S5632x2048 (extractStridedSlice S1x5632x2048 ![i.val, 0, 0] (res_main_v14 V) h'') h''')

theorem part_apply (i : Fin 8) (h h' h'' h''') (n : Fin 36864) (e : Fin 2048) : part V i h h' h'' h''' (ix2 n e)
    = if res_main_v11 V (ix1 n) = 1#1 ∧ res_main_v8 V (ix1 n) = BitVec.ofNat 32 i.val then
        ffn (V (Proc.devRef .tc main_arg0)) (V (Proc.devRef .tc main_arg1)) (V (Proc.devRef .tc main_arg2)) (V (Proc.devRef .tc main_arg3)) i n e
      else 0 := by
  refine (kept_apply _ _ _ _ _ _ _ _ _).trans (congrArg (fun s : EReal => if res_main_v11 V (ix1 n) = 1#1 ∧ res_main_v8 V (ix1 n) = BitVec.ofNat 32 i.val then s else 0) ?_)
  refine Finset.sum_congr rfl fun f _ => ?_
  rw [hidden_apply, slice2]
  simp only [slice13]
  rfl

/-- The result is the sum of the eight parts. -/
theorem sum_parts (n : Fin 36864) (e : Fin 2048) : res_main_v151 V (ix2 n e) = ∑ i : Fin 8,
    (if res_main_v11 V (ix1 n) = 1#1 ∧ res_main_v8 V (ix1 n) = BitVec.ofNat 32 i.val then
        ffn (V (Proc.devRef .tc main_arg0)) (V (Proc.devRef .tc main_arg1)) (V (Proc.devRef .tc main_arg2)) (V (Proc.devRef .tc main_arg3)) i n e
      else (0 : EReal)) := by
  rw [Fin.sum_univ_eight]
  have zero : (broadcastInDim S36864x2048 ![] bcast_S_S36864x2048 (constant (F := Ideal) S_ .f32 0x00000000#32)) (ix2 n e) = (0 : EReal) :=
    Ideal.ofBits_zero_f32
  have half : res_main_v83 V (ix2 n e) = (((0 + part V 0 slices_S8x2048x5632_S1x2048x5632_0_0_0 shapeCasts_S1x2048x5632_S2048x5632 slices_S8x5632x2048_S1x5632x2048_0_0_0 shapeCasts_S1x5632x2048_S5632x2048 (ix2 n e))
      + part V 1 slices_S8x2048x5632_S1x2048x5632_1_0_0 shapeCasts_S1x2048x5632_S2048x5632 slices_S8x5632x2048_S1x5632x2048_1_0_0 shapeCasts_S1x5632x2048_S5632x2048 (ix2 n e))
      + part V 2 slices_S8x2048x5632_S1x2048x5632_2_0_0 shapeCasts_S1x2048x5632_S2048x5632 slices_S8x5632x2048_S1x5632x2048_2_0_0 shapeCasts_S1x5632x2048_S5632x2048 (ix2 n e))
      + (part V 3 slices_S8x2048x5632_S1x2048x5632_3_0_0 shapeCasts_S1x2048x5632_S2048x5632 slices_S8x5632x2048_S1x5632x2048_3_0_0 shapeCasts_S1x5632x2048_S5632x2048 (ix2 n e) : EReal) := by
    rw [← zero]
    rfl
  have whole : ∀ s : EReal, res_main_v83 V (ix2 n e) = s → res_main_v151 V (ix2 n e) = (((s + part V 4 slices_S8x2048x5632_S1x2048x5632_4_0_0 shapeCasts_S1x2048x5632_S2048x5632 slices_S8x5632x2048_S1x5632x2048_4_0_0 shapeCasts_S1x5632x2048_S5632x2048 (ix2 n e))
      + part V 5 slices_S8x2048x5632_S1x2048x5632_5_0_0 shapeCasts_S1x2048x5632_S2048x5632 slices_S8x5632x2048_S1x5632x2048_5_0_0 shapeCasts_S1x5632x2048_S5632x2048 (ix2 n e))
      + part V 6 slices_S8x2048x5632_S1x2048x5632_6_0_0 shapeCasts_S1x2048x5632_S2048x5632 slices_S8x5632x2048_S1x5632x2048_6_0_0 shapeCasts_S1x5632x2048_S5632x2048 (ix2 n e))
      + (part V 7 slices_S8x2048x5632_S1x2048x5632_7_0_0 shapeCasts_S1x2048x5632_S2048x5632 slices_S8x5632x2048_S1x5632x2048_7_0_0 shapeCasts_S1x5632x2048_S5632x2048 (ix2 n e) : EReal) := fun s h => by
    subst h
    rfl
  rw [whole _ half, zero_add]
  simp only [part_apply]

/-- The reference's result is the mixture. -/
theorem result (hr : Routing (V (Proc.devRef .tc main_arg4)) (V (Proc.devRef .tc main_arg5))) : res_main_v151 V
    = mixture (V (Proc.devRef .tc main_arg0)) (V (Proc.devRef .tc main_arg1)) (V (Proc.devRef .tc main_arg2)) (V (Proc.devRef .tc main_arg3))
        (V (Proc.devRef .tc main_arg4)) (V (Proc.devRef .tc main_arg5)) hr := by
  have key : ∀ (n : Fin 36864) (e : Fin 2048), res_main_v151 V (ix2 n e)
      = rows (V (Proc.devRef .tc main_arg0)) (V (Proc.devRef .tc main_arg1)) (V (Proc.devRef .tc main_arg2)) (V (Proc.devRef .tc main_arg3))
          (V (Proc.devRef .tc main_arg4)) (V (Proc.devRef .tc main_arg5)) hr n e := fun n e => by
    have live : res_main_v11 V (ix1 n) = 1#1 ↔ (tile n).val < used (V (Proc.devRef .tc main_arg5)) := by
      rw [live_word, show V (Proc.devRef .tc main_arg5) (ix1 0) = word (V (Proc.devRef .tc main_arg5)) from
        congrArg (V (Proc.devRef .tc main_arg5)) (s1_one _ _), word_eq hr.le]
      exact slt_iff (tile n) ⟨_, Nat.lt_succ_of_le hr.le⟩
    have own : ∀ i : Fin 8, res_main_v8 V (ix1 n) = BitVec.ofNat 32 i.val
        ↔ (⟨expert (V (Proc.devRef .tc main_arg4)) (tile n), hr.lt _⟩ : Fin 8) = i := fun i => by
      rw [expert_word, show (ix1 (tile n) : S72.Idx) = entry (tile n) from funext fun a => by fin_cases a; rfl, Fin.ext_iff]
      constructor
      · intro h
        show (V (Proc.devRef .tc main_arg4) (entry (tile n))).toNat = i.val
        rw [h, BitVec.toNat_ofNat]
        omega
      · intro h
        apply BitVec.eq_of_toNat_eq
        rw [BitVec.toNat_ofNat, Nat.mod_eq_of_lt (by omega)]
        exact h
    rw [sum_parts]
    unfold rows
    simp only [live, own]
    by_cases hl : (tile n).val < used (V (Proc.devRef .tc main_arg5))
    · simp only [hl, true_and, if_true, Finset.sum_ite_eq, Finset.mem_univ]
    · simp only [hl, false_and, if_false, Finset.sum_const_zero]
  funext y
  have hy : y = ix2 (y 0) (y 1) := by
    refine funext fun a => ?_
    fin_cases a <;> rfl
  rw [hy]
  exact key _ _

end Cert.ReferenceIdeal.Expert

end
-- ==== Proof.ExpertBitsRun.lean ====
/- What each path through the expert call's body leaves in the two scratch arrays and in the output's block, as the
   payloads themselves. -/
module

public import proofs.«01_k».proof.Proof.Gen.Kernel.Flash.Runs
public import Idealize.ShloMosaic.Lib.Pipeline.ValueKit.Acc

@[expose] public section

set_option maxRecDepth 16384
set_option Elab.async false

noncomputable section

namespace Cert.Kernel.Expert

open Cert.Kernel Cert.Kernel.Gen
open Idealize.ShloMosaic Idealize.ShloMosaic.TcCoe Idealize.SL.Sem

section
variable (c : Dev nD) (i : grid0.Coords)
  (a4 : Memref sig .tc .vmem S512x2048 .f32) (h4 : a4.IsWhole) (a5 : Memref sig .tc .vmem S1x2048x512 .bf16) (h5 : a5.IsWhole)
  (a6 : Memref sig .tc .vmem S1x2048x512 .bf16) (h6 : a6.IsWhole) (a7 : Memref sig .tc .vmem S1x512x2048 .bf16) (h7 : a7.IsWhole)
  (a8 : Memref sig .tc .vmem S512x2048 .f32) (h8 : a8.IsWhole)
  (T0 : S72.Idx → Elt Bits .i32) (T1 : S1.Idx → Elt Bits .i32)
  (x0 : S512x2048.Idx → Elt Bits .f32) (x1 x2 : S1x2048x512.Idx → Elt Bits .bf16) (x3 : S1x512x2048.Idx → Elt Bits .bf16)
  (b0 : Buf (Elt Bits) ((c : Thread nD τ).loc cc0_scratch0)) (b1 : Buf (Elt Bits) ((c : Thread nD τ).loc cc0_scratch1))

theorem kept_A (k1 : k0_cond1 i (View.readAt (Elt Bits) (tbM0_1).view (Rect.unit (s := S1) ![0] S1.size inb_S1_S1_0).toLoadRect T1 (Shape.Idx.first (numel1_S1.symm ▸ Nat.one_pos))) = 1#1) (k2 : Scalar.cmpi .ne (Scalar.extui (Scalar.cmpi .eq (BitVec.ofNat 32 (i 1).val) 0#32)) 0#32 = 1#1) (k3 : ¬k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_A c i a4 h4 a5 h5 a6 h6 a7 h7 a8 h8 T0 T1 x0 x1 x2 x3 k1 k2 k3 k4).1 = k0_pay1 x0 := by
  refine (rfl : _ = (View.whole cc0_scratch0).read (Elt Bits) _).trans ?_
  frame_out
  simp only [View.read_rep]
  exact View.canon_cons_unit_lit _ _ _ (by decide)

theorem sum_A (k1 : k0_cond1 i (View.readAt (Elt Bits) (tbM0_1).view (Rect.unit (s := S1) ![0] S1.size inb_S1_S1_0).toLoadRect T1 (Shape.Idx.first (numel1_S1.symm ▸ Nat.one_pos))) = 1#1) (k2 : Scalar.cmpi .ne (Scalar.extui (Scalar.cmpi .eq (BitVec.ofNat 32 (i 1).val) 0#32)) 0#32 = 1#1) (k3 : ¬k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_A c i a4 h4 a5 h5 a6 h6 a7 h7 a8 h8 T0 T1 x0 x1 x2 x3 k1 k2 k3 k4).2.1 = k0_pay3 (k0_pay2 (F := Bits)) (k0_pay1 x0) x1 x2 x3 := by
  refine (rfl : _ = (View.whole cc0_scratch1).read (Elt Bits) _).trans ?_
  frame_out
  simp only [View.read_rep]
  refine (View.canon_cons_unit_lit _ _ _ (by decide)).trans ?_
  rfl

theorem kept_B (k1 : k0_cond1 i (View.readAt (Elt Bits) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : ¬k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_B c i a4 h4 a5 h5 a6 h6 a7 h7 a8 h8 T0 T1 x0 x1 x2 x3 b0 b1 k1 k2 k3 k4).1 = b0 := by
  frame_out

theorem sum_B (k1 : k0_cond1 i (View.readAt (Elt Bits) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : ¬k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_B c i a4 h4 a5 h5 a6 h6 a7 h7 a8 h8 T0 T1 x0 x1 x2 x3 b0 b1 k1 k2 k3 k4).2.1 = k0_pay3 b1 b0 x1 x2 x3 := by
  refine (rfl : _ = (View.whole cc0_scratch1).read (Elt Bits) _).trans ?_
  frame_out
  simp only [View.read_rep]
  refine (View.canon_cons_unit_lit _ _ _ (by decide)).trans ?_
  rfl

theorem kept_C (k1 : k0_cond1 i (View.readAt (Elt Bits) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_C c i a4 h4 a5 h5 a6 h6 a7 h7 a8 h8 T0 T1 x0 x1 x2 x3 b0 b1 k1 k2 k3 k4).2.1 = b0 := by
  frame_out

theorem sum_C (k1 : k0_cond1 i (View.readAt (Elt Bits) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_C c i a4 h4 a5 h5 a6 h6 a7 h7 a8 h8 T0 T1 x0 x1 x2 x3 b0 b1 k1 k2 k3 k4).2.2.1 = k0_pay3 b1 b0 x1 x2 x3 := by
  refine (rfl : _ = (View.whole cc0_scratch1).read (Elt Bits) _).trans ?_
  frame_out
  simp only [View.read_rep]
  refine (View.canon_cons_unit_lit _ _ _ (by decide)).trans ?_
  rfl

theorem stored_C (k1 : k0_cond1 i (View.readAt (Elt Bits) (tbM0_1).view (Rect.unit (s := S1) ![0] S1.size inb_S1_S1_0).toLoadRect T1 (Shape.Idx.first (numel1_S1.symm ▸ Nat.one_pos))) = 1#1) (k2 : ¬Scalar.cmpi .ne (Scalar.extui (Scalar.cmpi .eq (BitVec.ofNat 32 (i 1).val) 0#32)) 0#32 = 1#1) (k3 : k0_cond3 i = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    out0_C_4 c i a4 h4 a5 h5 a6 h6 a7 h7 a8 h8 T0 T1 x0 x1 x2 x3 b0 b1 k1 k2 k3 k4 = k0_pay3 b1 b0 x1 x2 x3 := by
  frame_out
  simp only [View.read_rep]
  rfl

theorem kept_D (k1 : ¬k0_cond1 i (View.readAt (Elt Bits) (tbM0_1).view (Rect.unit (s := S1) ![0] S1.size inb_S1_S1_0).toLoadRect T1 (Shape.Idx.first (numel1_S1.symm ▸ Nat.one_pos))) = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_D c i a4 h4 a5 h5 a6 h6 a7 h7 a8 h8 T0 T1 x0 x1 x2 x3 b0 b1 k1 k4).1 = b0 := by
  frame_out

theorem sum_D (k1 : ¬k0_cond1 i (View.readAt (Elt Bits) (tbM0_1).view (Rect.unit (s := S1) ![0] S1.size inb_S1_S1_0).toLoadRect T1 (Shape.Idx.first (numel1_S1.symm ▸ Nat.one_pos))) = 1#1) (k4 : ¬k0_cond4 i (View.readAt (Elt Bits) (tbM0_1).view (Rect.unit (s := S1) ![0] S1.size inb_S1_S1_0).toLoadRect T1 (Shape.Idx.first (numel1_S1.symm ▸ Nat.one_pos))) = 1#1) :
    (kernelRun0_D c i a4 h4 a5 h5 a6 h6 a7 h7 a8 h8 T0 T1 x0 x1 x2 x3 b0 b1 k1 k4).2.1 = b1 := by
  frame_out

theorem kept_E (k1 : ¬k0_cond1 i (View.readAt (Elt Bits) (tbM0_1).view (Rect.unit (s := S1) ![0] S1.size inb_S1_S1_0).toLoadRect T1 (Shape.Idx.first (numel1_S1.symm ▸ Nat.one_pos))) = 1#1) (k4 : k0_cond4 i (View.readAt (Elt Bits) (tbM0_1).view (Rect.unit (s := S1) ![0] S1.size inb_S1_S1_0).toLoadRect T1 (Shape.Idx.first (numel1_S1.symm ▸ Nat.one_pos))) = 1#1) :
    (kernelRun0_E c i a4 h4 a5 h5 a6 h6 a7 h7 a8 h8 T0 T1 x0 x1 x2 x3 b0 b1 k1 k4).2.1 = b0 := by
  frame_out

theorem sum_E (k1 : ¬k0_cond1 i (View.readAt (Elt Bits) (tbM0_1).view (Rect.unit (s := S1) ![0] S1.size inb_S1_S1_0).toLoadRect T1 (Shape.Idx.first (numel1_S1.symm ▸ Nat.one_pos))) = 1#1) (k4 : k0_cond4 i (View.readAt (Elt Bits) (tbM0_1).view (Rect.unit (s := S1) ![0] S1.size inb_S1_S1_0).toLoadRect T1 (Shape.Idx.first (numel1_S1.symm ▸ Nat.one_pos))) = 1#1) :
    (kernelRun0_E c i a4 h4 a5 h5 a6 h6 a7 h7 a8 h8 T0 T1 x0 x1 x2 x3 b0 b1 k1 k4).2.2.1 = b1 := by
  frame_out

theorem stored_E (k1 : ¬k0_cond1 i (View.readAt (Elt Bits) (tbM0_1).view (Rect.unit (s := S1) ![0] S1.size inb_S1_S1_0).toLoadRect T1 (Shape.Idx.first (numel1_S1.symm ▸ Nat.one_pos))) = 1#1) (k4 : k0_cond4 i (View.readAt (Elt Bits) (tbM0_1).view (Rect.unit (s := S1) ![0] S1.size inb_S1_S1_0).toLoadRect T1 (Shape.Idx.first (numel1_S1.symm ▸ Nat.one_pos))) = 1#1) :
    out0_E_4 c i a4 h4 a5 h5 a6 h6 a7 h7 a8 h8 T0 T1 x0 x1 x2 x3 b0 b1 k1 k4 = k0_pay4 (F := Bits) := by
  frame_out

end

end Cert.Kernel.Expert

end
-- ==== Proof.ExpertClaims.lean ====
/- The claims about the experts: the precondition says that the two tables are a routing; from it the kernel runs, and its
   result is the reference's. -/
module

public import proofs.«01_k».proof.Defs
public import proofs.«01_k».proof.Proof.ExpertValue
public import proofs.«01_k».proof.Proof.ExpertRef
public import proofs.«01_k».proof.Proof.ExpertBitsFrame
public import proofs.«01_k».proof.Proof.Gen.Pre_routed
public import Idealize.ShloMosaic.Lib.Claim
public import Idealize.ShloMosaic.Lib.StableHlo.Predicate

@[expose] public section

set_option maxRecDepth 16384

noncomputable section

namespace Cert.Expert

open Idealize.ShloMosaic Idealize.ShloMosaic.TcCoe Idealize.ShloMosaic.StableHlo Idealize.SL.Sem

/-- A word between two bounds, as a number. -/
theorem toNat_of_bounds (v : BitVec 32) (h0 : (0#32).sle v = true) : v.toInt = v.toNat := by
  have h0 : (0 : Int) ≤ v.toInt := BitVec.sle_iff_toInt_le.mp h0
  have hv := v.isLt
  have e := BitVec.toInt_eq_toNat_cond v
  rw [e] at h0 ⊢
  split at h0 <;> rename_i hs
  · rw [if_pos hs]
  · exfalso
    omega

theorem lt_eight (v : BitVec 32) (h0 : IntOp.cmpi .sge v 0#32 = 1#1) (h8 : IntOp.cmpi .slt v 8#32 = 1#1) : v.toNat < 8 := by
  have bit : ∀ p : Bool, BitVec.ofBool p = 1#1 → p = true := by decide
  have e := toNat_of_bounds v (bit _ h0)
  have l := BitVec.slt_iff_toInt_lt.mp (bit _ h8)
  rw [e] at l
  exact_mod_cast (show (v.toNat : Int) < 8 from l)

theorem used_bounds (v : BitVec 32) (h1 : IntOp.cmpi .sge v 1#32 = 1#1) (h72 : IntOp.cmpi .sle v 72#32 = 1#1) : 1 ≤ v.toNat ∧ v.toNat ≤ 72 := by
  have bit : ∀ p : Bool, BitVec.ofBool p = 1#1 → p = true := by decide
  have l1 := BitVec.sle_iff_toInt_le.mp (bit _ h1)
  have l2 := BitVec.sle_iff_toInt_le.mp (bit _ h72)
  have e := toNat_of_bounds v (BitVec.sle_iff_toInt_le.mpr (le_trans (by decide) l1))
  rw [e] at l1 l2
  have l1 : (1 : Int) ≤ v.toNat := l1
  have l2 : (v.toNat : Int) ≤ 72 := l2
  omega

/-- The precondition, read on the tables of the program at the extended reals. -/
theorem routed (m : (ℓ : Loc KernelIdeal.nD KernelIdeal.τ KernelIdeal.sig) → Buf (Elt Ideal) ℓ) (h : Cert.Pre_KernelIdeal m) :
    Cert.KernelIdeal.Expert.Routed m := by
  obtain ⟨h0, h1, h2, h3⟩ := h 0
  have b := used_bounds (Cert.KernelIdeal.Expert.word (Cert.KernelIdeal.Expert.tab1 m)) (congrFun h2 _) (congrFun h3 _)
  exact ⟨b.1, b.2, fun j => lt_eight _ (congrFun h0 _) (congrFun h1 _)⟩

/-- The same of the program at the formats' bits. -/
theorem routed_bits (m : (ℓ : Loc Kernel.nD Kernel.τ Kernel.sig) → Buf (Elt Bits) ℓ) (h : Cert.Pre_Kernel m) :
    Cert.Kernel.Expert.Routed m := by
  obtain ⟨h0, h1, h2, h3⟩ := h 0
  have b := used_bounds (Cert.Kernel.Expert.word (Cert.Kernel.Expert.tab1 m)) (congrFun h2 _) (congrFun h3 _)
  exact ⟨b.1, b.2, fun j => lt_eight _ (congrFun h0 _) (congrFun h1 _)⟩

/-- The kernel runs from a routing, its arguments unchanged and its semaphores at zero. -/
theorem frame_kernel : Cert.quiescent_Kernel := fun m g h => Cert.Kernel.Expert.unchanged m g (routed_bits m h)

/-- So does the program at the extended reals. -/
theorem frame_ideal : Cert.quiescent_KernelIdeal := fun m g h => Cert.KernelIdeal.Expert.unchanged m g (routed m h)

/-- The reference runs, leaves its arguments unchanged and has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The same under the precondition. -/
theorem frame_reference_routed : Cert.quiescent_ReferenceIdeal_pre_routed := fun m g _ => frame_reference m g trivial

/-- Tables equal to a routing's are one. -/
theorem routing_congr {T0 T0' : Cert.KernelIdeal.S72.Idx → BitVec 32} {T1 T1' : Cert.KernelIdeal.S1.Idx → BitVec 32}
    (hr : Cert.KernelIdeal.Expert.Routing T0 T1) (t0 : T0' = T0) (t1 : T1' = T1) : Cert.KernelIdeal.Expert.Routing T0' T1' := by
  rw [t0, t1]
  exact hr

/-- The mixture of equal tables is the same. -/
theorem mixture_congr {xs xs' : Cert.KernelIdeal.S36864x2048.Idx → EReal} {w1 w1' w3 w3' : Cert.KernelIdeal.S8x2048x5632.Idx → EReal}
    {w2 w2' : Cert.KernelIdeal.S8x5632x2048.Idx → EReal} {T0 T0' : Cert.KernelIdeal.S72.Idx → BitVec 32} {T1 T1' : Cert.KernelIdeal.S1.Idx → BitVec 32}
    (hr : Cert.KernelIdeal.Expert.Routing T0 T1) (hr' : Cert.KernelIdeal.Expert.Routing T0' T1') (e : xs' = xs) (e1 : w1' = w1) (e3 : w3' = w3)
    (e2 : w2' = w2) (t0 : T0' = T0) (t1 : T1' = T1) : mixture xs' w1' w3' w2' T0' T1' hr' = mixture xs w1 w3 w2 T0 T1 hr := by
  subst e e1 e3 e2 t0 t1
  rfl

/-- The two programs end with equal results. -/
theorem algebraic : Cert.algebraic_KernelIdeal_ReferenceIdeal := fun m g m' g' hpre hagree => by
  have hr := routed m hpre
  refine ⟨fun c => (mixture (Cert.KernelIdeal.Expert.X m c) (Cert.KernelIdeal.Expert.W1 m c) (Cert.KernelIdeal.Expert.W3 m c)
    (Cert.KernelIdeal.Expert.W2 m c) (Cert.KernelIdeal.Expert.tab0 m) (Cert.KernelIdeal.Expert.tab1 m) hr), ?_, ?_⟩
  · refine θ_run_mono (θ_run_and (Cert.KernelIdeal.Expert.ends m g hr) (Cert.KernelIdeal.Expert.unchanged m g hr)) ?_
    intro r h c
    exact ⟨((h.1.1 c).1 (4 : Fin 5)).trans (Cert.KernelIdeal.Expert.final m g hr c), h.2.1 c⟩
  · refine (θ_run Cert.ReferenceIdeal.defs _ _).mono (fun r h c => ⟨(h c).1.trans ?_, (h c).2⟩) (Cert.ReferenceIdeal.Value.run m' g')
    obtain ⟨e0, e1, e2, e3, e4, e5⟩ := hagree c
    obtain rfl : c = 0 := Subsingleton.elim _ _
    have hr' : Cert.KernelIdeal.Expert.Routing (launchContents m' (0 : Dev Cert.ReferenceIdeal.nD) (Proc.devRef .tc Cert.ReferenceIdeal.main_arg4))
        (launchContents m' (0 : Dev Cert.ReferenceIdeal.nD) (Proc.devRef .tc Cert.ReferenceIdeal.main_arg5)) := by
      exact routing_congr hr e4 e5
    exact (Cert.ReferenceIdeal.Expert.result _ hr').trans (mixture_congr hr hr' e0 e1 e2 e3 e4 e5)

end Cert.Expert

end
-- ==== Proof.DenseValue.lean ====
/- The dense feed-forward kernel's result: the residual plus the gate times the normalised feed-forward product. -/
module

public import proofs.«01_k».proof.Proof.DenseSpec
public import proofs.«01_k».proof.Proof.Gen.Kernel2Ideal.Value

@[expose] public section

set_option maxRecDepth 16384

noncomputable section

namespace Cert.Kernel2Ideal.Dense

open Idealize.ShloMosaic Idealize.ShloMosaic.TcCoe Cert.Kernel2Ideal Cert.Kernel2Ideal.Gen Cert.Dense

/-- Which block each window takes at a grid point. -/
theorem idx : ∀ t : Fin cfg0.N, win0_0.index t = ![t.val / 88, t.val / 11 % 8, 0] ∧ win0_1.index t = ![0, t.val % 11]
    ∧ win0_2.index t = ![0, t.val % 11] ∧ win0_3.index t = ![t.val % 11, 0]
    ∧ win0_4.index t = ![t.val / 88, t.val / 11 % 8, 0] ∧ win0_5.index t = ![0, 0]
    ∧ win0_6.index t = ![t.val / 88, 0, 0] ∧ win0_7.index t = ![t.val / 88, t.val / 11 % 8, 0] :=
  (by decide +kernel : ∀ t : Fin grid0.N, win0_0.index t = ![t.val / 88, t.val / 11 % 8, 0] ∧ win0_1.index t = ![0, t.val % 11]
    ∧ win0_2.index t = ![0, t.val % 11] ∧ win0_3.index t = ![t.val % 11, 0]
    ∧ win0_4.index t = ![t.val / 88, t.val / 11 % 8, 0] ∧ win0_5.index t = ![0, 0]
    ∧ win0_6.index t = ![t.val / 88, 0, 0] ∧ win0_7.index t = ![t.val / 88, t.val / 11 % 8, 0])

variable (m : (ℓ : Loc nD τ sig) → Buf (Elt Ideal) ℓ) (c : Dev nD)

/-- The arguments by name: the normed tokens, -/
abbrev H : S4x4096x2048.Idx → EReal := m ((c : Thread nD τ).loc main_arg0)
/-- the first weight, -/
abbrev W1 : S2048x5632.Idx → EReal := m ((c : Thread nD τ).loc main_arg1)
/-- the third weight, -/
abbrev W3 : S2048x5632.Idx → EReal := m ((c : Thread nD τ).loc main_arg2)
/-- the second weight, -/
abbrev W2 : S5632x2048.Idx → EReal := m ((c : Thread nD τ).loc main_arg3)
/-- the residual, -/
abbrev X : S4x4096x2048.Idx → EReal := m ((c : Thread nD τ).loc main_arg4)
/-- the norm's weight, -/
abbrev P : S1x2048.Idx → EReal := m ((c : Thread nD τ).loc main_arg5)
/-- and the gate. -/
abbrev T : S4x1x2048.Idx → EReal := m ((c : Thread nD τ).loc main_arg6)

/-- A column of the chunk of the first weight. -/
theorem w1_blk (t : Fin cfg0.N) (s : Fin 11) (hs : t.val % 11 = s) (d : Fin 2048) (k : Fin 512) :
    (iblk m c 1 t : Vec Ideal S2048x512 .bf16) (ix2 d k) = W1 m c (ix2 d ⟨s * 512 + k, by omega⟩) := by
  blk_ext [iblk, V, (idx t).2.1, hs]

/-- A column of the chunk of the third weight. -/
theorem w3_blk (t : Fin cfg0.N) (s : Fin 11) (hs : t.val % 11 = s) (d : Fin 2048) (k : Fin 512) :
    (iblk m c 2 t : Vec Ideal S2048x512 .bf16) (ix2 d k) = W3 m c (ix2 d ⟨s * 512 + k, by omega⟩) := by
  blk_ext [iblk, V, (idx t).2.2.1, hs]

/-- A row of the chunk of the second weight. -/
theorem w2_blk (t : Fin cfg0.N) (s : Fin 11) (hs : t.val % 11 = s) (k : Fin 512) (e : Fin 2048) :
    (iblk m c 3 t : Vec Ideal S512x2048 .bf16) (ix2 k e) = W2 m c (ix2 ⟨s * 512 + k, by omega⟩ e) := by
  blk_ext [iblk, V, (idx t).2.2.2.1, hs]

/-- The batch's gate. -/
theorem t_blk (t : Fin cfg0.N) (b : Fin 4) (hb : t.val / 88 = b) (e : Fin 2048) : (iblk m c 6 t : Vec Ideal S1x1x2048 .f32) (ix3 0 0 e) = T m c (ix3 b 0 e) := by
  blk_ext [iblk, V, (idx t).2.2.2.2.2.2.1, hb]

/-- The norm's weight. -/
theorem p_blk (t : Fin cfg0.N) (e : Fin 2048) : (iblk m c 5 t : Vec Ideal S1x2048 .f32) (ix2 0 e) = P m c (ix2 0 e) := by
  blk_ext [iblk, V, (idx t).2.2.2.2.2.1]

/-- A token of the block. -/
theorem h_blk (t : Fin cfg0.N) (b : Fin 4) (hb : t.val / 88 = b) (i : Fin 8) (hi : t.val / 11 % 8 = i) (r : Fin 512) (d : Fin 2048) :
    (iblk m c 0 t : Vec Ideal S1x512x2048 .bf16) (ix3 0 r d) = H m c (ix3 b ⟨i * 512 + r, by omega⟩ d) := by
  blk_ext [iblk, V, (idx t).1, hb, hi]

/-- A token's residual. -/
theorem x_blk (t : Fin cfg0.N) (b : Fin 4) (hb : t.val / 88 = b) (i : Fin 8) (hi : t.val / 11 % 8 = i) (r : Fin 512) (d : Fin 2048) :
    (iblk m c 4 t : Vec Ideal S1x512x2048 .f32) (ix3 0 r d) = X m c (ix3 b ⟨i * 512 + r, by omega⟩ d) := by
  blk_ext [iblk, V, (idx t).2.2.2.2.1, hb, hi]

/-- What a grid point adds, in the arguments' numbers. -/
theorem chunk_blk (t : Fin cfg0.N) (b : Fin 4) (hb : t.val / 88 = b) (i : Fin 8) (hi : t.val / 11 % 8 = i) (s : Fin 11) (hs : t.val % 11 = s) (r : Fin 512) (e : Fin 2048) :
    chunk (iblk m c 0 t) (iblk m c 1 t) (iblk m c 2 t) (iblk m c 3 t) r e
      = ∑ k : Fin 512, hid (H m c) (W1 m c) (W3 m c) b ⟨i * 512 + r, by omega⟩ ⟨s * 512 + k, by omega⟩
          * W2 m c (ix2 ⟨s * 512 + k, by omega⟩ e) := by
  refine Finset.sum_congr rfl fun k _ => ?_
  refine congrArg₂ (fun x y : EReal => x * y) (congrArg₂ gate ?_ ?_) (w2_blk m c t s hs k e)
  · exact Finset.sum_congr rfl fun d _ => congrArg₂ (fun x y : EReal => x * y) (h_blk m c t b hb i hi r d) (w1_blk m c t s hs d k)
  · exact Finset.sum_congr rfl fun d _ => congrArg₂ (fun x y : EReal => x * y) (h_blk m c t b hb i hi r d) (w3_blk m c t s hs d k)

/-- A block's first chunk: the sum starts from zero. -/
theorem acc_A (t : Fin cfg0.N) (h0 : t.val % 11 = 0) (r : Fin 512) (e : Fin 2048) : (outsAt0 m c t.val t.isLt).2 (ix2 r e)
    = 0 + chunk (iblk m c 0 t) (iblk m c 1 t) (iblk m c 2 t) (iblk m c 3 t) r e := by
  rw [outsAt0_A m c t h0 (by omega)]
  dsimp only
  rw [sout_A]

/-- A later chunk is added to the sum of those before it. -/
theorem acc_BC (t : Fin cfg0.N) (h0 : ¬t.val % 11 = 0) (r : Fin 512) (e : Fin 2048) : (outsAt0 m c t.val t.isLt).2 (ix2 r e)
    = (outsAt0 m c (t.val - 1) (Nat.lt_of_le_of_lt (Nat.sub_le _ _) t.isLt)).2 (ix2 r e)
      + chunk (iblk m c 0 t) (iblk m c 1 t) (iblk m c 2 t) (iblk m c 3 t) r e := by
  by_cases h1 : t.val % 11 = 10
  · rw [outsAt0_C m c t h0 h1]
    dsimp only
    rw [sout_C]
  · rw [outsAt0_B m c t h0 h1]
    dsimp only
    rw [sout_B]

/-- What the last chunk stores is made of the sum it leaves. -/
theorem out_at (t : Fin cfg0.N) (h0 : ¬t.val % 11 = 0) (h1 : t.val % 11 = 10) (r : Fin 512) (e : Fin 2048) :
    (outsAt0 m c t.val t.isLt).1 (ix3 0 r e)
      = post ((iblk m c 4 t : Vec Ideal S1x512x2048 .f32) (ix3 0 r e)) ((iblk m c 6 t : Vec Ideal S1x1x2048 .f32) (ix3 0 0 e))
        ((iblk m c 5 t : Vec Ideal S1x2048 .f32) (ix2 0 e)) (fun k => (outsAt0 m c t.val t.isLt).2 (ix2 r k)) e := by
  rw [outsAt0_C m c t h0 h1]
  dsimp only
  rw [out_C, pay2_apply]
  rfl

/-- The carried sum after a block's last chunk is the whole feed-forward product. -/
theorem carried (t : Fin cfg0.N) (b : Fin 4) (i : Fin 8) (hb : t.val / 88 = b) (hi : t.val / 11 % 8 = i) (ht : t.val % 11 = 10)
    (r : Fin 512) (e : Fin 2048) : (outsAt0 m c t.val t.isLt).2 (ix2 r e)
      = ffn (H m c) (W1 m c) (W3 m c) (W2 m c) b ⟨i * 512 + r, by omega⟩ e := by
  have h := Pipeline.eq_sum_fin_of_reset_step_apply_of_flush (fun n h => fun p : Fin 512 × Fin 2048 => (outsAt0 m c n h).2 (ix2 p.1 p.2)) 11
    (fun _ => (0 : EReal)) (fun t p => chunk (iblk m c 0 t) (iblk m c 1 t) (iblk m c 2 t) (iblk m c 3 t) p.1 p.2)
    (fun t h0 p => acc_A m c t h0 p.1 p.2) (fun t h0 p => acc_BC m c t h0 p.1 p.2)
    t ht (r, e)
  refine h.trans ((zero_add _).trans ?_)
  refine (Finset.sum_congr rfl fun s _ => chunk_blk m c ⟨11 * (t.val / 11) + s.val, Pipeline.run_point_lt_of_flush t ht s⟩ b (by show (11 * (t.val / 11) + s.val) / 88 = b; omega)
    i (by show (11 * (t.val / 11) + s.val) / 11 % 8 = i; omega) s (by show (11 * (t.val / 11) + s.val) % 11 = s; omega) r e).trans ?_
  exact Fin.sum_mul_add_fin 11 512 (fun f : Fin 5632 => hid (H m c) (W1 m c) (W3 m c) b ⟨i * 512 + r, by omega⟩ f * W2 m c (ix2 f e)) (by decide)

/-- What the last chunk stores, in the arguments' numbers. -/
theorem stored (t : Fin cfg0.N) (b : Fin 4) (i : Fin 8) (hb : t.val / 88 = b) (hi : t.val / 11 % 8 = i) (ht : t.val % 11 = 10)
    (r : Fin 512) (e : Fin 2048) : (outsAt0 m c t.val t.isLt).1 (ix3 0 r e)
      = layer (H m c) (W1 m c) (W3 m c) (W2 m c) (X m c) (P m c) (T m c) (ix3 b ⟨i * 512 + r, by omega⟩ e) := by
  rw [out_at m c t (by omega) ht, x_blk m c t b hb i hi, t_blk m c t b hb, p_blk m c t,
    funext fun k => carried m c t b i hb hi ht r k]
  rfl

/-- The result array after all grid points. -/
theorem final : ((dats m 0 c).arrAt 7 cfg0.N : S4x4096x2048.Idx → EReal)
    = layer (H m c) (W1 m c) (W3 m c) (W2 m c) (X m c) (P m c) (T m c) := by
  refine (dats m 0 c).arrAt_eq_of_covers 7 _ (by decide +kernel) fun t hf y => ?_
  have ht : t.val % 11 = 10 := (flush0_7 t).mp hf
  have hN : t.val < 352 := lt_of_lt_of_eq t.isLt (show cfg0.N = 352 from N_0)
  rw [after0_7]
  blk_simp
  have h0 : (y 0 : ℕ) < 1 := (y 0).isLt
  have h1 : (y 1 : ℕ) < 512 := (y 1).isLt
  have h2 : (y 2 : ℕ) < 2048 := (y 2).isLt
  have he : (win0_7.blk t).view.emb y = ix3 ⟨t.val / 88, by omega⟩ ⟨t.val / 11 % 8 * 512 + (y 1 : ℕ), by omega⟩ ⟨y 2, h2⟩ := by
    refine funext fun a => Fin.ext ?_
    blk_simp [(idx t).2.2.2.2.2.2.2]
    fin_cases a
    · show t.val / 88 * 1 + (y 0 : ℕ) = t.val / 88
      omega
    · rfl
    · show 0 * 2048 + (y 2 : ℕ) = (y 2 : ℕ)
      omega
  have hy : y = ix3 0 ⟨y 1, h1⟩ ⟨y 2, h2⟩ := by
    refine funext fun a => ?_
    fin_cases a
    · exact Fin.ext (by show (y 0 : ℕ) = 0; omega)
    · rfl
    · rfl
  rw [he]
  refine (congrArg (outsAt0 m c t.val t.isLt).1 hy).trans ?_
  exact stored m c t ⟨t.val / 88, by omega⟩ ⟨t.val / 11 % 8, by omega⟩ rfl rfl ht _ _

end Cert.Kernel2Ideal.Dense

end

end
-- ==== Proof.DenseClaims.lean ====
/- The claims about the dense feed-forward sub-layer: the kernel and its reference agree for all arguments. -/
module

public import proofs.«01_k».proof.Defs
public import proofs.«01_k».proof.Proof.DenseValue
public import proofs.«01_k».proof.Proof.Gen.Reference2Ideal.Run
public import proofs.«01_k».proof.Proof.Gen.Kernel2.Frame
public import Idealize.ShloMosaic.Lib.Claim

@[expose] public section

set_option maxRecDepth 16384

noncomputable section

namespace Cert.Reference2Ideal.Dense

open Idealize.ShloMosaic Idealize.ShloMosaic.TcCoe Cert.Reference2Ideal Cert.Reference2Ideal.Gen Cert.Dense

variable (h : FVec Ideal S4x4096x2048 .f32) (w1 w3 : FVec Ideal S2048x5632 .f32) (w2 : FVec Ideal S5632x2048 .f32)
  (x : FVec Ideal S4x4096x2048 .f32) (p : FVec Ideal S1x2048 .f32) (t : FVec Ideal S4x1x2048 .f32)

/-- The reference's gated hidden numbers. -/
def hidden (h : FVec Ideal S4x4096x2048 .f32) (w1 w3 : FVec Ideal S2048x5632 .f32) : FVec Ideal S4x4096x5632 .f32 :=
  mulf (mulf (Host.dotGeneral dot_S4x4096x2048_S2048x5632_S4x4096x5632_2_0_01_1_n_n none h w1) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (Host.dotGeneral dot_S4x4096x2048_S2048x5632_S4x4096x5632_2_0_01_1_n_n none h w1)))))) (Host.dotGeneral dot_S4x4096x2048_S2048x5632_S4x4096x5632_2_0_01_1_n_n none h w3)

/-- Its second product. -/
def product (a : FVec Ideal S4x4096x5632 .f32) (w2 : FVec Ideal S5632x2048 .f32) : FVec Ideal S4x4096x2048 .f32 :=
  Host.dotGeneral dot_S4x4096x5632_S5632x2048_S4x4096x2048_2_0_01_1_n_n none a w2

/-- The normalised product, weighted, gated and added to the residual. -/
def normed (o : FVec Ideal S4x4096x2048 .f32) (x : FVec Ideal S4x4096x2048 .f32) (p : FVec Ideal S1x2048 .f32)
    (t : FVec Ideal S4x1x2048 .f32) : FVec Ideal S4x4096x2048 .f32 :=
  addf x (mulf (broadcastInDim S4x4096x2048 ![0, 1, 2] bcast_S4x1x2048_S4x4096x2048_0_1_2 t)
    (mulf (mulf o (broadcastInDim S4x4096x2048 ![0, 1, 2] bcast_S4x4096x1_S4x4096x2048_0_1_2 (Host.rsqrt (addf
      (Host.divf (broadcastInDim S4x4096x1 ![0, 1] bcast_S4x4096_S4x4096x1_0_1
        (Host.reduceAdd (mulf o o) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![1, 2] bcast_S1x2048_S1x1x2048_1_2 p))))

/-- A hidden number of the reference. -/
theorem hidden_apply (b : Fin 4) (n : Fin 4096) (f : Fin 5632) : hidden h w1 w3 (ix3 b n f) = hid h w1 w3 b n f := by
  unfold hid
  rw [← silu]
  pointwise [hidden]

/-- A number of its product. -/
theorem product_apply (a : FVec Ideal S4x4096x5632 .f32) (b : Fin 4) (n : Fin 4096) (e : Fin 2048) :
    product a w2 (ix3 b n e) = ∑ f : Fin 5632, a (ix3 b n f) * w2 (ix2 f e) := by
  pointwise [product]

/-- A number of its result, from the row of the product. -/
theorem normed_apply (o : FVec Ideal S4x4096x2048 .f32) (b : Fin 4) (n : Fin 4096) (e : Fin 2048) :
    normed o x p t (ix3 b n e) = post (x (ix3 b n e)) (t (ix3 b 0 e)) (p (ix2 0 e)) (fun k => o (ix3 b n k)) e := by
  pointwise [normed]
  rfl

/-- The reference's result is the sub-layer's. -/
theorem result : normed (product (hidden h w1 w3) w2) x p t = layer h w1 w3 w2 x p t := by
  have key : ∀ (b : Fin 4) (n : Fin 4096) (e : Fin 2048),
      normed (product (hidden h w1 w3) w2) x p t (ix3 b n e) = layer h w1 w3 w2 x p t (ix3 b n e) := fun b n e => by
    rw [normed_apply]
    refine congrArg (fun s => post (x (ix3 b n e)) (t (ix3 b 0 e)) (p (ix2 0 e)) s e) (funext fun k => ?_)
    rw [product_apply]
    exact Finset.sum_congr rfl fun f _ => congrArg (· * w2 (ix2 f k)) (hidden_apply h w1 w3 b n f)
  funext y
  have hy : y = ix3 (y 0) (y 1) (y 2) := by
    refine funext fun a => ?_
    fin_cases a <;> rfl
  rw [hy]
  exact key _ _ _

end Cert.Reference2Ideal.Dense

namespace Cert.Dense

open Idealize.ShloMosaic Idealize.ShloMosaic.TcCoe

/-- The two programs end with equal results. -/
theorem algebraic : Cert.algebraic_Kernel2Ideal_Reference2Ideal := by
  pair_intro
  · run_from Cert.Kernel2Ideal.Value.run_blocks m g
  · run_from Cert.Reference2Ideal.Value.run m' g'
    refine (Cert.Reference2Ideal.Dense.result _ _ _ _ _ _ _).trans ?_
    exact (Cert.Kernel2Ideal.Dense.final m c).symm

/-- The reference runs, leaves its arguments unchanged and has no semaphore. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

end Cert.Dense

end

end
-- ==== Proof.Softmax.lean ====
/- The arithmetic of a softmax taken block by block, over the extended reals: the running maximum and the running
   sums of an attention kernel, and why the quotient they end with is the softmax average of the reference. -/
module

public import Idealize.ShloMosaic.PureOps.Ideal

@[expose] public section

noncomputable section

namespace Cert.Softmax

open Idealize.ShloMosaic

/-- A nonnegative real factor moves into a finite sum of extended reals. -/
theorem coe_mul_sum {ι : Type} (r : ℝ) (hr : 0 ≤ r) (t : Finset ι) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- A finite sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The greatest of finitely many reals, at least one, is a real. -/
theorem fold_max_real {n : ℕ} (s : Fin (n + 1) → ℝ) :
    ∃ μ : ℝ, (Finset.univ.fold max (⊥ : EReal) fun j => (s j : EReal)) = μ := by
  obtain ⟨j, _, hj⟩ := Finset.exists_mem_eq_sup (Finset.univ : Finset (Fin (n + 1))) ⟨0, Finset.mem_univ 0⟩
    fun j => (s j : EReal)
  exact ⟨s j, hj⟩

/-- The running maximum and running sums of an attention taken `n + 1` blocks at a time: after at least one block the
    maximum is some real `μ`, and every sum is the sum, over all scores so far, of `2 ^ (score - μ)` times the value. -/
theorem chain {D : Type} {k : ℕ} (s : ℕ → Fin (k + 1) → ℝ) (V : ℕ → Fin (k + 1) → D → EReal) (M : ℕ → EReal)
    (A : ℕ → D → EReal) (h0 : M 0 = ⊥) (a0 : ∀ d, A 0 d = 0)
    (hM : ∀ n, M (n + 1) = max (M n) (Finset.univ.fold max ⊥ fun j => (s n j : EReal)))
    (hA : ∀ n d, A (n + 1) d = Ideal.exp2 (M n - M (n + 1)) * A n d
      + ∑ j, Ideal.exp2 ((s n j : EReal) - M (n + 1)) * V n j d) (n : ℕ) :
    ∃ μ : ℝ, M (n + 1) = μ ∧ ∀ d, A (n + 1) d
      = ∑ c ∈ Finset.range (n + 1), ∑ j, ((Real.rpow 2 (s c j - μ) : ℝ) : EReal) * V c j d := by
  induction n with
  | zero =>
    obtain ⟨μ, hμ⟩ := fold_max_real (s 0)
    have h1 : M (0 + 1) = (μ : EReal) := by rw [hM, h0, hμ]; exact max_bot_left _
    refine ⟨μ, h1, fun d => ?_⟩
    rw [hA, a0, mul_zero, zero_add, h1, Finset.sum_range_one]
    refine Finset.sum_congr rfl fun j _ => ?_
    rw [← EReal.coe_sub, Ideal.exp2_coe]
  | succ n ih =>
    obtain ⟨μ, hμ, hs⟩ := ih
    obtain ⟨ν, hν⟩ := fold_max_real (s (n + 1))
    have h1 : M (n + 1 + 1) = ((max μ ν : ℝ) : EReal) := by rw [hM, hμ, hν]; exact (EReal.coe_strictMono.monotone.map_max).symm
    refine ⟨max μ ν, h1, fun d => ?_⟩
    rw [hA, h1, hμ, hs, ← EReal.coe_sub, Ideal.exp2_coe,
      coe_mul_sum (Real.rpow 2 (μ - max μ ν)) (Real.rpow_nonneg (by norm_num) _), Finset.sum_range_succ _ (n + 1)]
    congr 1
    · refine Finset.sum_congr rfl fun c _ => ?_
      rw [coe_mul_sum (Real.rpow 2 (μ - max μ ν)) (Real.rpow_nonneg (by norm_num) _)]
      refine Finset.sum_congr rfl fun j _ => ?_
      rw [← mul_assoc, ← EReal.coe_mul]
      congr 2
      show (2 : ℝ) ^ (μ - max μ ν) * (2 : ℝ) ^ (s c j - μ) = (2 : ℝ) ^ (s c j - max μ ν)
      rw [← Real.rpow_add (by norm_num)]
      congr 1
      ring

/-- One last block of another size: the running sums after it are the sums over all scores with some real `ν` subtracted. -/
theorem last {ι D : Type} [Fintype ι] {k : ℕ} (t : ι → ℝ) (W : ι → D → EReal) (s : Fin (k + 1) → ℝ) (V : Fin (k + 1) → D → EReal)
    (μ : ℝ) (A : D → EReal) (M' : EReal) (A' : D → EReal)
    (h : ∀ d, A d = ∑ i, ((Real.rpow 2 (t i - μ) : ℝ) : EReal) * W i d)
    (hM : M' = max (μ : EReal) (Finset.univ.fold max ⊥ fun j => (s j : EReal)))
    (hA : ∀ d, A' d = Ideal.exp2 ((μ : EReal) - M') * A d + ∑ j, Ideal.exp2 ((s j : EReal) - M') * V j d) :
    ∃ ν : ℝ, ∀ d, A' d = ∑ i : ι ⊕ Fin (k + 1), ((Real.rpow 2 (Sum.elim t s i - ν) : ℝ) : EReal) * Sum.elim W V i d := by
  obtain ⟨ν, hν⟩ := fold_max_real s
  have h1 : M' = ((max μ ν : ℝ) : EReal) := by rw [hM, hν]; exact (EReal.coe_strictMono.monotone.map_max).symm
  refine ⟨max μ ν, fun d => ?_⟩
  rw [hA, h1, h, ← EReal.coe_sub, Ideal.exp2_coe, coe_mul_sum (Real.rpow 2 (μ - max μ ν)) (Real.rpow_nonneg (by norm_num) _),
    Fintype.sum_sum_type]
  refine congrArg₂ (fun x y : EReal => x + y) ?_ ?_
  · refine Finset.sum_congr rfl fun i _ => ?_
    rw [← mul_assoc, ← EReal.coe_mul]
    congr 2
    show (2 : ℝ) ^ (μ - max μ ν) * (2 : ℝ) ^ (t i - μ) = (2 : ℝ) ^ (t i - max μ ν)
    rw [← Real.rpow_add (by norm_num)]
    congr 1
    ring
  · refine Finset.sum_congr rfl fun j _ => ?_
    rw [← EReal.coe_sub, Ideal.exp2_coe]
    rfl

/-- The softmax weight of index `i` among the base-2 scores `s`. -/
def weight {ι : Type} [Fintype ι] (s : ι → ℝ) (i : ι) : ℝ := (2 : ℝ) ^ s i / ∑ k, (2 : ℝ) ^ s k

/-- Subtracting one number from every score does not change the weights. -/
theorem weight_shift {ι : Type} [Fintype ι] (s : ι → ℝ) (μ : ℝ) (i : ι) :
    (2 : ℝ) ^ (s i - μ) / ∑ k, (2 : ℝ) ^ (s k - μ) = weight s i := by
  have h : ∀ k, (2 : ℝ) ^ (s k - μ) = (2 : ℝ) ^ s k * (2 : ℝ) ^ (-μ) := fun k => by
    rw [← Real.rpow_add (by norm_num)]; rfl
  unfold weight
  simp only [h]
  rw [← Finset.sum_mul]
  exact mul_div_mul_right _ _ (Real.rpow_pos_of_pos (by norm_num) _).ne'

/-- The kernel's quotient: the weighted sum over the sum of the weights is the softmax average. -/
theorem div_sum {ι : Type} [Fintype ι] [Nonempty ι] (s : ι → ℝ) (μ : ℝ) (V : ι → EReal) :
    Ideal.div (∑ i, ((Real.rpow 2 (s i - μ) : ℝ) : EReal) * V i) (∑ i, ((Real.rpow 2 (s i - μ) : ℝ) : EReal) * 1)
      = ∑ i, (weight s i : EReal) * V i := by
  have hpos : 0 < ∑ i, (2 : ℝ) ^ (s i - μ) :=
    Finset.sum_pos (fun i _ => Real.rpow_pos_of_pos (by norm_num) _) Finset.univ_nonempty
  have hden : (∑ i, ((Real.rpow 2 (s i - μ) : ℝ) : EReal) * 1) = ((∑ i, (2 : ℝ) ^ (s i - μ) : ℝ) : EReal) := by
    rw [coe_sum]
    exact Finset.sum_congr rfl fun i _ => mul_one _
  rw [hden, Ideal.div_coe hpos.ne', mul_comm, coe_mul_sum _ (by positivity)]
  refine Finset.sum_congr rfl fun i _ => ?_
  rw [← mul_assoc, ← EReal.coe_mul, ← weight_shift s μ i]
  congr 2
  show 1 / _ * (2 : ℝ) ^ (s i - μ) = _
  rw [one_div, mul_comm, div_eq_mul_inv]

/-- The reference's weight: the exponential of a score less any real, over the sum of all of them, is the softmax
    weight of the scores divided by `log 2`. -/
theorem exp_div_sum {ι : Type} [Fintype ι] [Nonempty ι] (s t : ι → ℝ) (h : ∀ i, s i = t i * (Real.log 2)⁻¹) (μ : ℝ) (i : ι) :
    Ideal.div (Ideal.exp ((t i : EReal) - (μ : EReal))) (∑ k, Ideal.exp ((t k : EReal) - (μ : EReal)))
      = (weight s i : EReal) := by
  have hl : Real.log 2 ≠ 0 := (Real.log_pos (by norm_num)).ne'
  have he : ∀ k, Ideal.exp ((t k : EReal) - (μ : EReal)) = (((2 : ℝ) ^ (s k - μ * (Real.log 2)⁻¹) : ℝ) : EReal) := fun k => by
    rw [← EReal.coe_sub, Ideal.exp_coe, h, ← sub_mul, Real.rpow_def_of_pos (by norm_num), mul_comm (Real.log 2),
      mul_assoc, inv_mul_cancel₀ hl, mul_one]
  simp only [he]
  have hpos : 0 < ∑ k, (2 : ℝ) ^ (s k - μ * (Real.log 2)⁻¹) :=
    Finset.sum_pos (fun i _ => Real.rpow_pos_of_pos (by norm_num) _) Finset.univ_nonempty
  rw [← coe_sum, Ideal.div_coe hpos.ne', ← EReal.coe_mul, ← weight_shift s (μ * (Real.log 2)⁻¹) i, one_div, div_eq_mul_inv]

end Cert.Softmax

end

end
-- ==== Proof.GqaChain.lean ====
/- The attention kernel's body as ONE recursion: the eight unrolled steps of the online softmax over the
   latent keys are eight turns of one step, and the context keys are one step more. -/
module

public import proofs.«01_k».proof.Proof.Gen.Kernel3Ideal.Value
public import proofs.«01_k».proof.Proof.Softmax

@[expose] public section

set_option maxRecDepth 16384

noncomputable section

namespace Cert.Kernel3Ideal.Gqa

open Idealize.ShloMosaic Idealize.ShloMosaic.TcCoe Cert.Kernel3Ideal Cert.Kernel3Ideal.Gen

/-- The four heads' queries of a block, scaled, one below the other: 512 rows. -/
def rows (q : Vec Ideal S1x4x128x128 .f32) : FVec Ideal S512x128 .bf16 :=
  shapeCast S512x128 (truncf .bf16 (mulf (shapeCast S4x128x128 q shapeCasts_S1x4x128x128_S4x128x128)
    (broadcast S4x128x128 (Named.named κ "scale2" 0x3E0293EE#32))) bitsLt_bf16_f32) shapeCasts_S4x128x128_S512x128

/-- The scores of the rows against one block of 512 latent keys. -/
def scores (q : Vec Ideal S1x4x128x128 .f32) (k : Vec Ideal S1x1x512x128 .bf16) : FVec Ideal S512x512 .f32 :=
  matmul dot_S512x128_S512x128_S512x512_1_1_0_0_n_n none (rows q) (shapeCast S512x128 k shapeCasts_S1x1x512x128_S512x128 : FVec Ideal S512x128 .bf16)
    (constant S512x512 .f32 0x00000000#32)

/-- The running maximum after one more block of latent keys. -/
def stepM (q : Vec Ideal S1x4x128x128 .f32) (k : Vec Ideal S1x1x512x128 .bf16) (M : FVec Ideal S512x1 .f32) :
    FVec Ideal S512x1 .f32 :=
  maximumf M (shapeCast S512x1 (multiReduction .maximumf [1] S512 (scores q k) 0xFF800000#32 reduces_S512x512_S512
    (.inl rfl) rfl) shapeCasts_S512_S512x1)

/-- The running sums after one more block of latent keys and values. -/
def stepA (q : Vec Ideal S1x4x128x128 .f32) (k : Vec Ideal S1x1x512x128 .bf16) (v : Vec Ideal S1x1x512x256 .bf16)
    (M : FVec Ideal S512x1 .f32) (A : FVec Ideal S512x256 .f32) : FVec Ideal S512x256 .f32 :=
  addf (mulf (broadcastTo S512x256 (exp2 (subf M (stepM q k M))) broadcasts_S512x1_S512x256) A)
    (matmul dot_S512x512_S512x256_S512x256_1_0_0_1_n_n none
      (exp2 (truncf .bf16 (subf (scores q k) (broadcastTo S512x512 (stepM q k M) broadcasts_S512x1_S512x512)) bitsLt_bf16_f32))
      (shapeCast S512x256 v shapeCasts_S1x1x512x256_S512x256 : FVec Ideal S512x256 .bf16) (constant S512x256 .f32 0x00000000#32))

/-- The scores of the rows against the 256 context keys. -/
def scoresC (q : Vec Ideal S1x4x128x128 .f32) (k : Vec Ideal S1x1x256x128 .bf16) : FVec Ideal S512x256 .f32 :=
  matmul dot_S512x128_S256x128_S512x256_1_1_0_0_n_n none (rows q) (shapeCast S256x128 k shapeCasts_S1x1x256x128_S256x128 : FVec Ideal S256x128 .bf16)
    (constant S512x256 .f32 0x00000000#32)

/-- The running maximum after the context keys. -/
def lastM (q : Vec Ideal S1x4x128x128 .f32) (k : Vec Ideal S1x1x256x128 .bf16) (M : FVec Ideal S512x1 .f32) :
    FVec Ideal S512x1 .f32 :=
  maximumf M (shapeCast S512x1 (multiReduction .maximumf [1] S512 (scoresC q k) 0xFF800000#32 reduces_S512x256_S512
    (.inl rfl) rfl) shapeCasts_S512_S512x1)

/-- The running sums after the context keys and values. -/
def lastA (q : Vec Ideal S1x4x128x128 .f32) (k : Vec Ideal S1x1x256x128 .bf16) (v : Vec Ideal S1x1x256x256 .bf16)
    (M : FVec Ideal S512x1 .f32) (A : FVec Ideal S512x256 .f32) : FVec Ideal S512x256 .f32 :=
  addf (mulf (broadcastTo S512x256 (exp2 (subf M (lastM q k M))) broadcasts_S512x1_S512x256) A)
    (matmul dot_S512x256_S256x256_S512x256_1_0_0_1_n_n none
      (exp2 (truncf .bf16 (subf (scoresC q k) (broadcastTo S512x256 (lastM q k M) broadcasts_S512x1_S512x256)) bitsLt_bf16_f32))
      (shapeCast S256x256 v shapeCasts_S1x1x256x256_S256x256 : FVec Ideal S256x256 .bf16) (constant S512x256 .f32 0x00000000#32))

/-- The running maxima, block after block, from the lowest value. -/
def Ms (q : Vec Ideal S1x4x128x128 .f32) (kb : ℕ → Vec Ideal S1x1x512x128 .bf16) : ℕ → FVec Ideal S512x1 .f32
  | 0 => broadcast S512x1 (Named.named κ "lowest" 0xF149F2CA#32)
  | n + 1 => stepM q (kb n) (Ms q kb n)

/-- The running sums, block after block, from zero. -/
def As (q : Vec Ideal S1x4x128x128 .f32) (kb : ℕ → Vec Ideal S1x1x512x128 .bf16) (vb : ℕ → Vec Ideal S1x1x512x256 .bf16) :
    ℕ → FVec Ideal S512x256 .f32
  | 0 => broadcast S512x256 (Scalar.ofBits .f32 0x00000000#32)
  | n + 1 => stepA q (kb n) (vb n) (Ms q kb n) (As q kb vb n)

theorem Ms_succ (q : Vec Ideal S1x4x128x128 .f32) (kb : ℕ → Vec Ideal S1x1x512x128 .bf16) (n : ℕ) :
    Ms q kb (n + 1) = stepM q (kb n) (Ms q kb n) := rfl

theorem As_succ (q : Vec Ideal S1x4x128x128 .f32) (kb : ℕ → Vec Ideal S1x1x512x128 .bf16)
    (vb : ℕ → Vec Ideal S1x1x512x256 .bf16) (n : ℕ) :
    As q kb vb (n + 1) = stepA q (kb n) (vb n) (Ms q kb n) (As q kb vb n) := rfl

/-- The eight blocks of latent keys in the order in which they are taken. -/
def kb (x1 : Vec Ideal S1x1x4096x128 .bf16) : ℕ → Vec Ideal S1x1x512x128 .bf16
  | 0 => View.ld x1 r0_1
  | 1 => View.ld x1 r0_3
  | 2 => View.ld x1 r0_5
  | 3 => View.ld x1 r0_7
  | 4 => View.ld x1 r0_9
  | 5 => View.ld x1 r0_11
  | 6 => View.ld x1 r0_13
  | _ => View.ld x1 r0_15

/-- The blocks of latent values, in the same order. -/
def vb (x2 : Vec Ideal S1x1x4096x256 .bf16) : ℕ → Vec Ideal S1x1x512x256 .bf16
  | 0 => View.ld x2 r0_2
  | 1 => View.ld x2 r0_4
  | 2 => View.ld x2 r0_6
  | 3 => View.ld x2 r0_8
  | 4 => View.ld x2 r0_10
  | 5 => View.ld x2 r0_12
  | 6 => View.ld x2 r0_14
  | _ => View.ld x2 r0_16

variable (x0 : Vec Ideal S1x4x128x128 .f32) (x1 : Vec Ideal S1x1x4096x128 .bf16) (x2 : Vec Ideal S1x1x4096x256 .bf16)
  (x3 : Vec Ideal S1x1x256x128 .bf16) (x4 : Vec Ideal S1x1x256x256 .bf16)

/-- The scaled rows that the body holds. -/
theorem rows_eq : k0_pay36 x0 x1 x2 x3 x4 = rows (View.ld x0 r0_0) := rfl

/-- The running maximum that the body holds after 1 block. -/
theorem max_1 : k0_pay37 x0 x1 x2 x3 x4 = Ms (View.ld x0 r0_0) (kb x1) 1 := by
  unfold k0_pay37; rw [Ms_succ _ _ 0]; simp only [kb]; rfl

/-- The running maximum that the body holds after 3 blocks. -/
theorem max_3 : k0_pay39 x0 x1 x2 x3 x4 = Ms (View.ld x0 r0_0) (kb x1) 3 := by
  unfold k0_pay39; rw [rows_eq, max_1]; rw [Ms_succ _ _ 2, Ms_succ _ _ 1]; simp only [kb]; rfl

/-- The running maximum that the body holds after 5 blocks. -/
theorem max_5 : k0_pay41 x0 x1 x2 x3 x4 = Ms (View.ld x0 r0_0) (kb x1) 5 := by
  unfold k0_pay41; rw [rows_eq, max_3]; rw [Ms_succ _ _ 4, Ms_succ _ _ 3]; simp only [kb]; rfl

/-- The running maximum that the body holds after 7 blocks. -/
theorem max_7 : k0_pay43 x0 x1 x2 x3 x4 = Ms (View.ld x0 r0_0) (kb x1) 7 := by
  unfold k0_pay43 k0_pay42; rw [rows_eq, max_5, Ms_succ _ _ 6, Ms_succ _ _ 5]; simp only [kb]; rfl

/-- The running maximum that the body holds after 8 blocks. -/
theorem max_8 : k0_pay47 x0 x1 x2 x3 x4 = Ms (View.ld x0 r0_0) (kb x1) 8 := by
  unfold k0_pay47 k0_pay42; rw [rows_eq, max_5, Ms_succ _ _ 7, Ms_succ _ _ 6, Ms_succ _ _ 5]; simp only [kb]; rfl

/-- The running sums that the body holds after 7 blocks. -/
theorem sums_7 : k0_pay44 x0 x1 x2 x3 x4 = As (View.ld x0 r0_0) (kb x1) (vb x2) 7 := by
  unfold k0_pay44 k0_pay42 k0_pay40
  rw [rows_eq, max_1, max_3, max_5]
  rfl

/-- The body's quotient: the first 128 columns of the sums after all blocks, over column 128. -/
theorem quotient : k0_pay49 x0 x1 x2 x3 x4
    = divf (extractStridedSlice S512x128 ![0, 0] (lastA (View.ld x0 r0_0) (View.ld x3 r0_17) (View.ld x4 r0_18)
          (Ms (View.ld x0 r0_0) (kb x1) 8) (As (View.ld x0 r0_0) (kb x1) (vb x2) 8)) slices_S512x256_o0_0_S512x128)
        (broadcastTo S512x128 (extractStridedSlice S512x1 ![0, 128] (lastA (View.ld x0 r0_0) (View.ld x3 r0_17) (View.ld x4 r0_18)
          (Ms (View.ld x0 r0_0) (kb x1) 8) (As (View.ld x0 r0_0) (kb x1) (vb x2) 8))
          slices_S512x256_o0_128_S512x1) broadcasts_S512x1_S512x128) := by
  have h : k0_pay48 x0 x1 x2 x3 x4 = broadcastTo S512x512 (k0_pay47 x0 x1 x2 x3 x4) broadcasts_S512x1_S512x512 := rfl
  unfold k0_pay49
  rw [h, max_8, max_7, sums_7, rows_eq, As_succ _ _ _ 7]
  rfl

end Cert.Kernel3Ideal.Gqa

end

end
-- ==== Proof.GqaStep.lean ====
/- One row of the attention kernel's body: what its quotient is, column by column, when the queries and keys are finite. -/
module

public import proofs.«01_k».proof.Proof.GqaChain
public import Idealize.ShloMosaic.Lib.Pointwise

@[expose] public section

set_option maxRecDepth 16384

noncomputable section

namespace Cert.Kernel3Ideal.Gqa

open Idealize.ShloMosaic Idealize.ShloMosaic.TcCoe Cert.Kernel3Ideal Cert.Kernel3Ideal.Gen

/-- The scale of the scores, with the passage from the natural exponential to base 2: `(1 / sqrt 128) / log 2`, the
    square root being the f32 nearest to it. -/
def scale2 : ℝ := (11863283 / 134217728) * (Real.log 2)⁻¹

theorem named_scale2 : (Named.named κ "scale2" 0x3E0293EE#32 : Ideal .f32) = ((scale2 : ℝ) : EReal) := rfl

theorem named_lowest : (Named.named κ "lowest" 0xF149F2CA#32 : Ideal .f32) = (⊥ : EReal) := rfl

/-- Row `r` of the stacked queries is head `r / 128`, query `r % 128`, times the scale. -/
theorem rows_apply (q : Vec Ideal S1x4x128x128 .f32) (r : Fin 512) (e : Fin 128) :
    rows q (ix2 r e) = q (ix4 0 ⟨r / 128, by omega⟩ ⟨r % 128, by omega⟩ e) * ((scale2 : ℝ) : EReal) := by
  pointwise [rows]
  rfl

/-- A score is a row of queries times a key. -/
theorem scores_apply (q : Vec Ideal S1x4x128x128 .f32) (k : Vec Ideal S1x1x512x128 .bf16) (r : Fin 512) (j : Fin 512) :
    scores q k (ix2 r j) = ∑ e, rows q (ix2 r e) * k (ix4 0 0 j e) := by
  pointwise [scores]

/-- The new maximum is the greater of the old one and of the block's scores. -/
theorem stepM_apply (q : Vec Ideal S1x4x128x128 .f32) (k : Vec Ideal S1x1x512x128 .bf16) (M : FVec Ideal S512x1 .f32)
    (r : Fin 512) :
    stepM q k M (ix2 r 0) = max (M (ix2 r 0)) (Finset.univ.fold max ⊥ fun j => scores q k (ix2 r j)) := by
  pointwise [stepM]
  rfl

/-- The new sums: the old ones carried to the new maximum, plus the block's. -/
theorem stepA_apply (q : Vec Ideal S1x4x128x128 .f32) (k : Vec Ideal S1x1x512x128 .bf16) (v : Vec Ideal S1x1x512x256 .bf16)
    (M : FVec Ideal S512x1 .f32) (A : FVec Ideal S512x256 .f32) (r : Fin 512) (d : Fin 256) :
    stepA q k v M A (ix2 r d) = Ideal.exp2 (M (ix2 r 0) - stepM q k M (ix2 r 0)) * A (ix2 r d)
      + ∑ j, Ideal.exp2 (scores q k (ix2 r j) - stepM q k M (ix2 r 0)) * v (ix4 0 0 j d) := by
  pointwise [stepA]
  rfl

/-- A score against a context key is a row of queries times the key. -/
theorem scoresC_apply (q : Vec Ideal S1x4x128x128 .f32) (k : Vec Ideal S1x1x256x128 .bf16) (r : Fin 512) (j : Fin 256) :
    scoresC q k (ix2 r j) = ∑ e, rows q (ix2 r e) * k (ix4 0 0 j e) := by
  pointwise [scoresC]

/-- The last maximum is the greater of the one before and of the context's scores. -/
theorem lastM_apply (q : Vec Ideal S1x4x128x128 .f32) (k : Vec Ideal S1x1x256x128 .bf16) (M : FVec Ideal S512x1 .f32)
    (r : Fin 512) :
    lastM q k M (ix2 r 0) = max (M (ix2 r 0)) (Finset.univ.fold max ⊥ fun j => scoresC q k (ix2 r j)) := by
  pointwise [lastM]
  rfl

/-- The last sums: the ones before carried to the last maximum, plus the context's. -/
theorem lastA_apply (q : Vec Ideal S1x4x128x128 .f32) (k : Vec Ideal S1x1x256x128 .bf16) (v : Vec Ideal S1x1x256x256 .bf16)
    (M : FVec Ideal S512x1 .f32) (A : FVec Ideal S512x256 .f32) (r : Fin 512) (d : Fin 256) :
    lastA q k v M A (ix2 r d) = Ideal.exp2 (M (ix2 r 0) - lastM q k M (ix2 r 0)) * A (ix2 r d)
      + ∑ j, Ideal.exp2 (scoresC q k (ix2 r j) - lastM q k M (ix2 r 0)) * v (ix4 0 0 j d) := by
  pointwise [lastA]
  rfl

/-- The base-2 score of a query and a key, over the reals. -/
def score (q k : Fin 128 → ℝ) : ℝ := ∑ e, (q e * scale2) * k e

theorem scores_real (q : Vec Ideal S1x4x128x128 .f32) (k : Vec Ideal S1x1x512x128 .bf16) (r : Fin 512) (j : Fin 512)
    (qr kr : Fin 128 → ℝ) (hq : ∀ e, q (ix4 0 ⟨r / 128, by omega⟩ ⟨r % 128, by omega⟩ e) = ((qr e : ℝ) : EReal))
    (hk : ∀ e, k (ix4 0 0 j e) = ((kr e : ℝ) : EReal)) :
    scores q k (ix2 r j) = ((score qr kr : ℝ) : EReal) := by
  rw [scores_apply, score, Softmax.coe_sum]
  refine Finset.sum_congr rfl fun e _ => ?_
  rw [rows_apply, hq, hk, EReal.coe_mul, EReal.coe_mul]

theorem scoresC_real (q : Vec Ideal S1x4x128x128 .f32) (k : Vec Ideal S1x1x256x128 .bf16) (r : Fin 512) (j : Fin 256)
    (qr kr : Fin 128 → ℝ) (hq : ∀ e, q (ix4 0 ⟨r / 128, by omega⟩ ⟨r % 128, by omega⟩ e) = ((qr e : ℝ) : EReal))
    (hk : ∀ e, k (ix4 0 0 j e) = ((kr e : ℝ) : EReal)) :
    scoresC q k (ix2 r j) = ((score qr kr : ℝ) : EReal) := by
  rw [scoresC_apply, score, Softmax.coe_sum]
  refine Finset.sum_congr rfl fun e _ => ?_
  rw [rows_apply, hq, hk, EReal.coe_mul, EReal.coe_mul]

/-- Row `r` of the quotient is the softmax average of the values, over the eight latent blocks and the context. -/
theorem quotient_apply (q : Vec Ideal S1x4x128x128 .f32) (kb : ℕ → Vec Ideal S1x1x512x128 .bf16)
    (vb : ℕ → Vec Ideal S1x1x512x256 .bf16) (kc : Vec Ideal S1x1x256x128 .bf16) (vc : Vec Ideal S1x1x256x256 .bf16)
    (r : Fin 512) (d : Fin 128) (qr : Fin 128 → ℝ) (kr : ℕ → Fin 512 → Fin 128 → ℝ) (kcr : Fin 256 → Fin 128 → ℝ)
    (hq : ∀ e, q (ix4 0 ⟨r / 128, by omega⟩ ⟨r % 128, by omega⟩ e) = ((qr e : ℝ) : EReal))
    (hk : ∀ n j e, kb n (ix4 0 0 j e) = ((kr n j e : ℝ) : EReal))
    (hkc : ∀ j e, kc (ix4 0 0 j e) = ((kcr j e : ℝ) : EReal))
    (hv : ∀ n j, vb n (ix4 0 0 j 128) = 1) (hvc : ∀ j, vc (ix4 0 0 j 128) = 1) :
    divf (extractStridedSlice S512x128 ![0, 0] (lastA q kc vc (Ms q kb 8) (As q kb vb 8)) slices_S512x256_o0_0_S512x128)
        (broadcastTo S512x128 (extractStridedSlice S512x1 ![0, 128] (lastA q kc vc (Ms q kb 8) (As q kb vb 8)) slices_S512x256_o0_128_S512x1)
          broadcasts_S512x1_S512x128) (ix2 r d)
      = ∑ i : (Fin 8 × Fin 512) ⊕ Fin 256,
          ((Softmax.weight (Sum.elim (fun i : Fin 8 × Fin 512 => score qr (kr i.1 i.2)) fun j => score qr (kcr j)) i : ℝ) : EReal)
          * Sum.elim (fun i : Fin 8 × Fin 512 => vb i.1 (ix4 0 0 i.2 ⟨d, by omega⟩)) (fun j => vc (ix4 0 0 j ⟨d, by omega⟩)) i := by
  obtain ⟨μ, hμ, h⟩ := Softmax.chain (D := Fin 256) (fun n j => score qr (kr n j)) (fun n j d => vb n (ix4 0 0 j d))
    (fun n => Ms q kb n (ix2 r 0)) (fun n d => As q kb vb n (ix2 r d)) rfl
    (fun d => by show Ideal.ofBits .f32 0x00000000#32 = 0; exact Ideal.ofBits_zero_f32)
    (fun n => by
      rw [Ms_succ, stepM_apply]
      simp only [scores_real q (kb n) r _ qr _ hq (hk n _)])
    (fun n d => by
      rw [As_succ, stepA_apply, Ms_succ]
      simp only [scores_real q (kb n) r _ qr _ hq (hk n _)]) 7
  have hs : ∀ d : Fin 256, As q kb vb 8 (ix2 r d)
      = ∑ i : Fin 8 × Fin 512, ((Real.rpow 2 (score qr (kr i.1 i.2) - μ) : ℝ) : EReal) * vb i.1 (ix4 0 0 i.2 d) := fun d => by
    rw [Fintype.sum_prod_type, ← Finset.sum_range fun c => ∑ j, ((Real.rpow 2 (score qr (kr c j) - μ) : ℝ) : EReal) * vb c (ix4 0 0 j d)]
    exact h d
  have hμ' : Ms q kb 8 (ix2 r 0) = (μ : EReal) := hμ
  obtain ⟨ν, hl⟩ := Softmax.last (D := Fin 256) (fun i : Fin 8 × Fin 512 => score qr (kr i.1 i.2)) (fun i d => vb i.1 (ix4 0 0 i.2 d))
    (fun j => score qr (kcr j)) (fun j d => vc (ix4 0 0 j d)) μ (fun d => As q kb vb 8 (ix2 r d))
    (lastM q kc (Ms q kb 8) (ix2 r 0)) (fun d => lastA q kc vc (Ms q kb 8) (As q kb vb 8) (ix2 r d)) hs
    (by
      rw [lastM_apply, hμ']
      simp only [scoresC_real q kc r _ qr _ hq (hkc _)])
    (fun d => by
      rw [lastA_apply, hμ']
      simp only [scoresC_real q kc r _ qr _ hq (hkc _)])
  have h1 : ∀ i : (Fin 8 × Fin 512) ⊕ Fin 256,
      Sum.elim (fun (i : Fin 8 × Fin 512) (d : Fin 256) => vb i.1 (ix4 0 0 i.2 d)) (fun j d => vc (ix4 0 0 j d)) i 128 = 1 := by
    rintro (i | j)
    · exact hv _ _
    · exact hvc _
  have h2 : ∀ i : (Fin 8 × Fin 512) ⊕ Fin 256,
      Sum.elim (fun (i : Fin 8 × Fin 512) (d : Fin 256) => vb i.1 (ix4 0 0 i.2 d)) (fun j d => vc (ix4 0 0 j d)) i ⟨d, by omega⟩
        = Sum.elim (fun i : Fin 8 × Fin 512 => vb i.1 (ix4 0 0 i.2 ⟨d, by omega⟩)) (fun j => vc (ix4 0 0 j ⟨d, by omega⟩)) i := by
    rintro (i | j) <;> rfl
  pointwise
  simp only [hl, h1, h2]
  exact Softmax.div_sum (Sum.elim (fun i : Fin 8 × Fin 512 => score qr (kr i.1 i.2)) fun j => score qr (kcr j)) ν _

end Cert.Kernel3Ideal.Gqa

end

end
-- ==== Proof.GqaSpec.lean ====
/- What a row of the attention is: the average of the values, weighted by the softmax of the query's scores. -/
module

public import proofs.«01_k».proof.Proof.GqaStep

@[expose] public section

set_option maxRecDepth 16384

noncomputable section

namespace Cert.Gqa

open Idealize.ShloMosaic Cert.Kernel3Ideal.Gqa

/-- The 4096 latent rows and after them the 256 context rows. -/
def join {α : Type} (x : Fin 4096 → α) (y : Fin 256 → α) (j : Fin 4352) : α :=
  if h : (j : ℕ) < 4096 then x ⟨j, h⟩ else y ⟨j - 4096, by omega⟩

/-- A property of all the rows, latent and context, for the rows joined. -/
theorem join_rel {α β : Type} {R : α → β → Prop} {x : Fin 4096 → α} {y : Fin 256 → α} {x' : Fin 4096 → β} {y' : Fin 256 → β}
    (hx : ∀ j, R (x j) (x' j)) (hy : ∀ j, R (y j) (y' j)) (j : Fin 4352) : R (join x y j) (join x' y' j) := by
  unfold join
  split
  · exact hx _
  · exact hy _

/-- One number of the attention: the values of all keys, weighted by the softmax of the query's scores. -/
def attn (q : Fin 128 → ℝ) (k : Fin 4352 → Fin 128 → ℝ) (v : Fin 4352 → EReal) : EReal :=
  ∑ j, ((Softmax.weight (fun j => score q (k j)) j : ℝ) : EReal) * v j

/-- The place among all keys of row `j` of latent block `n`, and of a context row. -/
def place : (Fin 8 × Fin 512) ⊕ Fin 256 ≃ Fin 4352 :=
  (Equiv.sumCongr (finProdFinEquiv (m := 8) (n := 512)) (Equiv.refl (Fin 256))).trans (finSumFinEquiv (m := 8 * 512) (n := 256))

theorem place_latent (i : Fin 8 × Fin 512) : (place (.inl i) : ℕ) = i.2 + 512 * i.1 := rfl

theorem place_context (j : Fin 256) : (place (.inr j) : ℕ) = 4096 + j := rfl

/-- Taken in eight blocks of 512 latent keys and one of the context keys it is the same number. -/
theorem attn_blocks (q : Fin 128 → ℝ) (k : Fin 4352 → Fin 128 → ℝ) (v : Fin 4352 → EReal) :
    attn q k v = ∑ i : (Fin 8 × Fin 512) ⊕ Fin 256,
      ((Softmax.weight (fun i => score q (k (place i))) i : ℝ) : EReal) * v (place i) := by
  unfold attn
  rw [← Equiv.sum_comp place]
  refine Finset.sum_congr rfl fun i _ => ?_
  unfold Softmax.weight
  rw [Equiv.sum_comp place fun j => (2 : ℝ) ^ score q (k j)]

end Cert.Gqa

end

end
-- ==== Proof.GqaRef.lean ====
/- The reference's attention read at an index: for finite queries and keys it is the softmax average of the values. -/
module

public import proofs.«01_k».proof.Proof.Gen.Reference3Ideal.Run
public import proofs.«01_k».proof.Proof.GqaSpec
public import proofs.«01_k».proof.Proof.Softmax
public import Idealize.ShloMosaic.Lib.Pointwise

@[expose] public section

set_option maxRecDepth 16384

noncomputable section

namespace Cert.Reference3Ideal.Gqa

open Idealize.ShloMosaic Idealize.ShloMosaic.TcCoe Cert.Reference3Ideal Cert.Reference3Ideal.Gen

/-- All keys of a head, the latent ones and then the context ones (and so of the values). -/
def cat (k : FVec Ideal S4x2x4096x128 .f32) (kc : FVec Ideal S4x2x256x128 .f32) : FVec Ideal S4x4352x2x128 .f32 :=
  transpose S4x4352x2x128 [0, 2, 1, 3] (concatenate S4x2x4352x128 2 [⟨S4x2x4096x128, k⟩, ⟨S4x2x256x128, kc⟩]
    concatenates_S4x2x4096x128_S4x2x256x128_S4x2x4352x128_d2) transposes_S4x2x4352x128_S4x4352x2x128_0_2_1_3

/-- The scaled scores. -/
def scores (q : FVec Ideal S4x8x4096x128 .f32) (k : FVec Ideal S4x2x4096x128 .f32) (kc : FVec Ideal S4x2x256x128 .f32) :
    FVec Ideal S4x2x4x4096x4352 .f32 :=
  mulf (transpose S4x2x4x4096x4352 [0, 1, 4, 3, 2]
    (Host.dotGeneral dot_S4x4352x2x128_S4x4096x2x4x128_S4x2x4352x4096x4_3_4_1_13_02_02 none (cat k kc)
      (transpose S4x4096x2x4x128 [0, 3, 1, 2, 4] (shapeCast S4x2x4x4096x128 q shapeCasts_S4x8x4096x128_S4x2x4x4096x128)
        transposes_S4x2x4x4096x128_S4x4096x2x4x128_0_3_1_2_4)) transposes_S4x2x4352x4096x4_S4x2x4x4096x4352_0_1_4_3_2)
    (broadcastInDim S4x2x4x4096x4352 ![] bcast_S_S4x2x4x4096x4352 (constant S_ .f32 0x3DB504F3#32))

/-- The greatest score of every query. -/
def maxima (s : FVec Ideal S4x2x4x4096x4352 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4352_S4x2x4x4096_d4 h_S_)

/-- The exponentials of the scores less their greatest. -/
def exps (s : FVec Ideal S4x2x4x4096x4352 .f32) : FVec Ideal S4x2x4x4096x4352 .f32 :=
  Host.exp (subf s (broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 (maxima s))))

/-- The softmax of the scores. -/
def probs (s : FVec Ideal S4x2x4x4096x4352 .f32) : FVec Ideal S4x2x4x4096x4352 .f32 :=
  Host.divf (exps s) (broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3
      (Host.reduceAdd (exps s) (constant S_ .f32 0x00000000#32) reducesTo_S4x2x4x4096x4352_S4x2x4x4096_d4 h_S_)))

/-- The values averaged by a softmax, heads beside each other. -/
def average (v : FVec Ideal S4x4352x2x128 .f32) (p : FVec Ideal S4x2x4x4096x4352 .f32) : FVec Ideal S4x4096x1024 .bf16 :=
  truncf .bf16 (shapeCast S4x4096x1024 (transpose S4x4096x2x4x128 [0, 4, 1, 3, 2]
    (Host.dotGeneral dot_S4x4352x2x128_S4x2x4x4096x4352_S4x2x128x4x4096_1_4_3_23_02_01 none v p)
    transposes_S4x2x128x4x4096_S4x4096x2x4x128_0_4_1_3_2) shapeCasts_S4x4096x2x4x128_S4x4096x1024 : FVec Ideal S4x4096x1024 .f32)
    bitsLt_bf16_f32

/-- The latent rows and the context rows beside each other, at an index. -/
theorem cat_apply (k : FVec Ideal S4x2x4096x128 .f32) (kc : FVec Ideal S4x2x256x128 .f32) (b : Fin 4) (j : Fin 4352)
    (g : Fin 2) (e : Fin 128) : cat k kc (ix4 b j g e)
      = Gqa.join (fun n => k (ix4 b g n e)) (fun n => kc (ix4 b g n e)) j := by
  unfold Gqa.join
  pointwise [cat]

/-- A score at an index. -/
theorem scores_apply (q : FVec Ideal S4x8x4096x128 .f32) (k : FVec Ideal S4x2x4096x128 .f32) (kc : FVec Ideal S4x2x256x128 .f32)
    (b : Fin 4) (g : Fin 2) (h : Fin 4) (n : Fin 4096) (j : Fin 4352) : scores q k kc (ix5 b g h n j)
      = (∑ e, cat k kc (ix4 b j g e) * q (ix4 b ⟨g * 4 + h, by omega⟩ n e)) * Ideal.ofBits .f32 0x3DB504F3#32 := by
  pointwise [scores]

/-- The greater of two arrays at an index. -/
theorem maximumf_at {S : Shape} (x y : FVec Ideal S .f32) (i : S.Idx) : maximumf x y i = max (x i) (y i) := rfl

/-- A fold by the float maximum is a fold by the maximum. -/
theorem fold_maximumf {ι : Type} (S : Finset ι) (b : EReal) (f : ι → EReal) :
    S.fold (FloatOps.maximumf (F := Ideal) (φ := .f32)) b f = S.fold max b f := rfl

/-- The index over a query's index with a key's coordinate put in. -/
theorem maxima_lift (hr : S4x2x4x4096x4352.Reduces [4] S4x2x4x4096) (b : Fin 4) (g : Fin 2) (h : Fin 4) (n : Fin 4096)
    (k : Fin 4352) : hr.lift (ix4 b g h n) k = ix5 b g h n k := by
  refine funext fun a => Fin.ext ?_
  fin_cases a <;> rfl

/-- The word of minus infinity. -/
theorem ofBits_negInf : Ideal.ofBits .f32 0xFF800000#32 = (⊥ : EReal) := by simp [Ideal.ofBits, Ideal.ieee]

/-- Minus infinity is neutral for the maximum. -/
theorem max_bottom (x : EReal) : max (Ideal.ofBits .f32 0xFF800000#32) x = x := by rw [ofBits_negInf, max_eq_right bot_le]

/-- The greatest score at an index: the fold of the maximum over the keys. -/
theorem maxima_apply (s : FVec Ideal S4x2x4x4096x4352 .f32) (b : Fin 4) (g : Fin 2) (h : Fin 4) (n : Fin 4096) :
    maxima s (ix4 b g h n) = Finset.univ.fold max ⊥ fun j : Fin 4352 => s (ix5 b g h n j) := by
  have hr : S4x2x4x4096x4352.Reduces [4] S4x2x4x4096 := by decide
  unfold maxima
  refine (maximumf_at _ _ _).trans ((max_bottom _).trans ?_)
  refine (Host.reduce_eq_fold_single _ _ _ _ hr _ _).trans ((fold_maximumf _ _ _).trans ?_)
  refine Eq.trans (congrArg (fun z => Finset.fold max z _ _) ofBits_negInf) ?_
  exact congrArg (fun f => Finset.fold max (⊥ : EReal) f Finset.univ) (funext fun k => congrArg s (maxima_lift hr b g h n k))

/-- An exponential at an index. -/
theorem exps_apply (s : FVec Ideal S4x2x4x4096x4352 .f32) (b : Fin 4) (g : Fin 2) (h : Fin 4) (n : Fin 4096) (j : Fin 4352) :
    exps s (ix5 b g h n j) = Ideal.exp (s (ix5 b g h n j) - maxima s (ix4 b g h n)) := by
  pointwise [exps]

/-- A probability at an index. -/
theorem probs_apply (s : FVec Ideal S4x2x4x4096x4352 .f32) (b : Fin 4) (g : Fin 2) (h : Fin 4) (n : Fin 4096) (j : Fin 4352) :
    probs s (ix5 b g h n j) = Ideal.div (exps s (ix5 b g h n j)) (∑ k : Fin 4352, exps s (ix5 b g h n k)) := by
  pointwise [probs]

/-- A number of the result: the values averaged by the probabilities. -/
theorem average_apply (v : FVec Ideal S4x4352x2x128 .f32) (p : FVec Ideal S4x2x4x4096x4352 .f32) (b : Fin 4) (n : Fin 4096)
    (l : Fin 1024) : average v p (ix3 b n l) = ∑ j : Fin 4352, v (ix4 b j ⟨l / 512, by omega⟩ ⟨l % 128, by omega⟩)
      * p (ix5 b ⟨l / 512, by omega⟩ ⟨l / 128 % 4, by omega⟩ n j) := by
  pointwise [average]

/-- The word of the scale. -/
theorem ofBits_scale : Ideal.ofBits .f32 0x3DB504F3#32 = ((11863283 / 134217728 : ℝ) : EReal) := by
  simp [Ideal.ofBits, Ideal.ieee, -EReal.coe_mul]
  norm_num

/-- Of finite queries and keys the reference computes the attention. -/
theorem finite (q : FVec Ideal S4x8x4096x128 .f32) (k v : FVec Ideal S4x2x4096x128 .f32) (kc vc : FVec Ideal S4x2x256x128 .f32)
    (qr : S4x8x4096x128.Idx → ℝ) (kr : S4x2x4096x128.Idx → ℝ) (kcr : S4x2x256x128.Idx → ℝ)
    (hq : ∀ i, q i = ((qr i : ℝ) : EReal)) (hk : ∀ i, k i = ((kr i : ℝ) : EReal)) (hkc : ∀ i, kc i = ((kcr i : ℝ) : EReal))
    (b : Fin 4) (n : Fin 4096) (l : Fin 1024) (g : Fin 2) (h : Fin 4) (u : Fin 8) (d : Fin 128)
    (hg : (g : ℕ) = l / 512) (hh : (h : ℕ) = l / 128 % 4) (hu : (u : ℕ) = 4 * g + h) (hd : (d : ℕ) = l % 128) :
    average (cat v vc) (probs (scores q k kc)) (ix3 b n l)
      = Gqa.attn (fun e => qr (ix4 b u n e))
        (fun j e => Gqa.join (fun n => kr (ix4 b g n e)) (fun n => kcr (ix4 b g n e)) j)
        (fun j => Gqa.join (fun n => v (ix4 b g n d)) (fun n => vc (ix4 b g n d)) j) := by
  rw [average_apply, show (⟨l / 512, by omega⟩ : Fin 2) = g from Fin.ext hg.symm,
    show (⟨l / 128 % 4, by omega⟩ : Fin 4) = h from Fin.ext hh.symm, show (⟨l % 128, by omega⟩ : Fin 128) = d from Fin.ext hd.symm]
  have hu' : (⟨g * 4 + h, by omega⟩ : Fin 8) = u := Fin.ext (by simp only; omega)
  set kk : Fin 4352 → Fin 128 → ℝ := fun j e => Gqa.join (fun n => kr (ix4 b g n e)) (fun n => kcr (ix4 b g n e)) j
  have hs : ∀ j, scores q k kc (ix5 b g h n j)
      = (((∑ e, kk j e * qr (ix4 b u n e)) * (11863283 / 134217728) : ℝ) : EReal) := fun j => by
    rw [scores_apply, hu', ofBits_scale, EReal.coe_mul, Softmax.coe_sum]
    congr 1
    refine Finset.sum_congr rfl fun e _ => ?_
    rw [cat_apply, hq, EReal.coe_mul]
    congr 1
    exact Gqa.join_rel (R := fun x r => x = ((r : ℝ) : EReal)) (fun n => hk _) (fun n => hkc _) j
  obtain ⟨μ, hμ⟩ : ∃ μ : ℝ, (Finset.univ.fold max (⊥ : EReal) fun j : Fin 4352 =>
      (((∑ e, kk j e * qr (ix4 b u n e)) * (11863283 / 134217728) : ℝ) : EReal)) = μ := Softmax.fold_max_real (n := 4351) _
  have hm : maxima (scores q k kc) (ix4 b g h n) = (μ : EReal) := by
    rw [maxima_apply]
    simp only [hs]
    exact hμ
  unfold Gqa.attn
  refine Finset.sum_congr rfl fun j _ => ?_
  rw [cat_apply, mul_comm]
  refine congrArg₂ (fun x y : EReal => x * y) ?_ rfl
  rw [probs_apply]
  simp only [exps_apply, hm, hs]
  refine Softmax.exp_div_sum _ _ (fun j => ?_) μ j
  unfold Cert.Kernel3Ideal.Gqa.score Cert.Kernel3Ideal.Gqa.scale2
  rw [Finset.sum_mul, Finset.sum_mul]
  exact Finset.sum_congr rfl fun e _ => by ring

/-- The reference's result in these names. -/
theorem result (m : (ℓ : Loc nD τ sig) → Buf (Elt Ideal) ℓ) (c : Dev nD) : Value.res_main_v24 m c
    = average (cat (m ((c : Thread nD τ).loc main_arg2)) (m ((c : Thread nD τ).loc main_arg4)))
      (probs (scores (m ((c : Thread nD τ).loc main_arg0)) (m ((c : Thread nD τ).loc main_arg1)) (m ((c : Thread nD τ).loc main_arg3)))) := rfl

end Cert.Reference3Ideal.Gqa

end

end
-- ==== Proof.GqaBlock.lean ====
/- What the attention kernel's windows hold at a grid point: the queries, keys and values of the arguments that the
   point's batch, key head and query block name; the values with a column of ones beside them. -/
module

public import proofs.«01_k».proof.Proof.GqaChain
public import Idealize.ShloMosaic.Lib.Pointwise
public import Idealize.ShloMosaic.Lib.Pipeline.ValueKit

@[expose] public section

set_option maxRecDepth 16384

noncomputable section

namespace Cert.Kernel3Ideal.Gqa

open Idealize.ShloMosaic Idealize.ShloMosaic.TcCoe Cert.Kernel3Ideal Cert.Kernel3Ideal.Gen

/-- Row `j` of the `n`-th block of latent keys. -/
theorem kb_apply (x1 : Vec Ideal S1x1x4096x128 .bf16) (n : ℕ) (j : Fin 512) (e : Fin 128) :
    kb x1 n (ix4 0 0 j e) = x1 (ix4 0 0 ⟨512 * min n 7 + j, by omega⟩ e) := by
  by_cases h : n < 7
  · interval_cases n <;> (simp only [kb]; pointwise; exact congrArg (fun u => x1 (ix4 0 0 u e)) (Fin.ext (by simp only; omega)))
  · obtain ⟨k, rfl⟩ := Nat.exists_eq_add_of_le' (Nat.le_of_not_lt h)
    show View.ld x1 r0_15 (ix4 0 0 j e) = _
    pointwise
    exact congrArg (fun u => x1 (ix4 0 0 u e)) (Fin.ext (by simp only; omega))

/-- Row `j` of the `n`-th block of latent values. -/
theorem vb_apply (x2 : Vec Ideal S1x1x4096x256 .bf16) (n : ℕ) (j : Fin 512) (d : Fin 256) :
    vb x2 n (ix4 0 0 j d) = x2 (ix4 0 0 ⟨512 * min n 7 + j, by omega⟩ d) := by
  by_cases h : n < 7
  · interval_cases n <;> (simp only [vb]; pointwise; exact congrArg (fun u => x2 (ix4 0 0 u d)) (Fin.ext (by simp only; omega)))
  · obtain ⟨k, rfl⟩ := Nat.exists_eq_add_of_le' (Nat.le_of_not_lt h)
    show View.ld x2 r0_16 (ix4 0 0 j d) = _
    pointwise
    exact congrArg (fun u => x2 (ix4 0 0 u d)) (Fin.ext (by simp only; omega))

/-- A row of the context keys. -/
theorem kc_apply (x3 : Vec Ideal S1x1x256x128 .bf16) (j : Fin 256) (e : Fin 128) :
    View.ld x3 r0_17 (ix4 0 0 j e) = x3 (ix4 0 0 j e) := by
  pointwise

/-- A row of the context values. -/
theorem vc_apply (x4 : Vec Ideal S1x1x256x256 .bf16) (j : Fin 256) (d : Fin 256) :
    View.ld x4 r0_18 (ix4 0 0 j d) = x4 (ix4 0 0 j d) := by
  pointwise

/-- The body's block of the result: lane `128 h + d` of query `n` is row `128 h + n`, column `d` of the quotient. -/
theorem out_apply (x0 : Vec Ideal S1x4x128x128 .f32) (x1 : Vec Ideal S1x1x4096x128 .bf16) (x2 : Vec Ideal S1x1x4096x256 .bf16)
    (x3 : Vec Ideal S1x1x256x128 .bf16) (x4 : Vec Ideal S1x1x256x256 .bf16) (y : S1x128x512.Idx) (r : Fin 512) (d : Fin 128)
    (hr : (r : ℕ) = 128 * ((y 2 : ℕ) / 128) + (y 1 : ℕ)) (hd : (d : ℕ) = (y 2 : ℕ) % 128) :
    out0_5 x0 x1 x2 x3 x4 y = k0_pay49 x0 x1 x2 x3 x4 (ix2 r d) := by
  unfold out0_5
  canon_tiles x h
  · pointwise [k0_pay2]
    congr 1; exact congrArg₂ ix2 (Fin.ext (by simp only; omega)) (Fin.ext (by simp only; omega))
  · pointwise [k0_pay1]
    congr 1; exact congrArg₂ ix2 (Fin.ext (by simp only; omega)) (Fin.ext (by simp only; omega))
  · pointwise [k0_pay34, k0_pay49]
    congr 1; exact congrArg₂ ix2 (Fin.ext (by simp only; omega)) (Fin.ext (by simp only; omega))
  · pointwise [k0_pay33, k0_pay49]
    congr 1; exact congrArg₂ ix2 (Fin.ext (by simp only; omega)) (Fin.ext (by simp only; omega))

/-- Which block each window takes at a grid point. -/
theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val])

variable (m : (ℓ : Loc nD τ sig) → Buf (Elt Ideal) ℓ) (c : Dev nD)

/-- The latent values beside their block of ones and zeros, as the region finds them. -/
theorem V_v8 : V m c main_v8 = concatenate S4x2x4096x256 3 [⟨S4x2x4096x128, (truncf .bf16 (m ((c : Thread nD τ).loc main_arg2) : FVec Ideal S4x2x4096x128 .f32) bitsLt_bf16_f32 : FVec Ideal S4x2x4096x128 .bf16)⟩,
    ⟨S4x2x4096x128, (truncf .bf16 (select (cmpi .eq (iotaInDim S4x2x4096x128 32 3)
        (broadcastInDim S4x2x4096x128 ![] bcast_S_S4x2x4096x128 (constantI S_ 32 0#32)))
      (broadcastInDim S4x2x4096x128 ![] bcast_S_S4x2x4096x128 (constant S_ .f32 1065353216#32 : FVec Ideal S_ .f32))
      (broadcastInDim S4x2x4096x128 ![] bcast_S_S4x2x4096x128 (constant S_ .f32 0#32 : FVec Ideal S_ .f32)) : FVec Ideal S4x2x4096x128 .f32) bitsLt_bf16_f32 : FVec Ideal S4x2x4096x128 .bf16)⟩]
    concatenates_S4x2x4096x128_S4x2x4096x128_S4x2x4096x256_d3 := by
  unfold_abbrev_sides
  simp only [hostOps0, hostOps0_1, hostOps0_2, hostOps0_3, hostOps0_4, List.flatten_cons, List.flatten_nil, List.append_nil,
    List.cons_append, List.nil_append]
  after_results
  rfl

/-- The context values beside their block of ones and zeros, as the region finds them. -/
theorem V_v15 : V m c main_v15 = concatenate S4x2x256x256 3 [⟨S4x2x256x128, (truncf .bf16 (m ((c : Thread nD τ).loc main_arg4) : FVec Ideal S4x2x256x128 .f32) bitsLt_bf16_f32 : FVec Ideal S4x2x256x128 .bf16)⟩,
    ⟨S4x2x256x128, (truncf .bf16 (select (cmpi .eq (iotaInDim S4x2x256x128 32 3)
        (broadcastInDim S4x2x256x128 ![] bcast_S_S4x2x256x128 (constantI S_ 32 0#32)))
      (broadcastInDim S4x2x256x128 ![] bcast_S_S4x2x256x128 (constant S_ .f32 1065353216#32 : FVec Ideal S_ .f32))
      (broadcastInDim S4x2x256x128 ![] bcast_S_S4x2x256x128 (constant S_ .f32 0#32 : FVec Ideal S_ .f32)) : FVec Ideal S4x2x256x128 .f32) bitsLt_bf16_f32 : FVec Ideal S4x2x256x128 .bf16)⟩]
    concatenates_S4x2x256x128_S4x2x256x128_S4x2x256x256_d3 := by
  unfold_abbrev_sides
  simp only [hostOps0, hostOps0_1, hostOps0_2, hostOps0_3, hostOps0_4, List.flatten_cons, List.flatten_nil, List.append_nil,
    List.cons_append, List.nil_append]
  after_results
  rfl

variable (b : Fin 4) (g : Fin 2) (i : Fin 32) (t : Fin cfg0.N) (hb : (grid0.coords t 0).val = b)
  (hg : (grid0.coords t 1).val = g) (hi : (grid0.coords t 2).val = i)

include hb hg

theorem k_blk (n : Fin 4096) (e : Fin 128) : (iblk m c 1 t : Vec Ideal S1x1x4096x128 .bf16) (ix4 0 0 n e)
    = m ((c : Thread nD τ).loc main_arg1) (ix4 b g n e) := by
  blk_ext [iblk, V, (idx t).2.1, hb, hg]

theorem kc_blk (n : Fin 256) (e : Fin 128) : (iblk m c 3 t : Vec Ideal S1x1x256x128 .bf16) (ix4 0 0 n e)
    = m ((c : Thread nD τ).loc main_arg3) (ix4 b g n e) := by
  blk_ext [iblk, V, (idx t).2.2.2.1, hb, hg]

theorem v_blk_read (n : Fin 4096) (d : Fin 256) : (iblk m c 2 t : Vec Ideal S1x1x4096x256 .bf16) (ix4 0 0 n d)
    = (V m c main_v8 : Vec Ideal S4x2x4096x256 .bf16) (ix4 b g n d) := by
  show (V m c main_v8 : Vec Ideal S4x2x4096x256 .bf16) _ = _
  blk_ext [(idx t).2.2.1, hb, hg]

theorem vc_blk_read (n : Fin 256) (d : Fin 256) : (iblk m c 4 t : Vec Ideal S1x1x256x256 .bf16) (ix4 0 0 n d)
    = (V m c main_v15 : Vec Ideal S4x2x256x256 .bf16) (ix4 b g n d) := by
  show (V m c main_v15 : Vec Ideal S4x2x256x256 .bf16) _ = _
  blk_ext [(idx t).2.2.2.2.1, hb, hg]

theorem v_blk (n : Fin 4096) (d : Fin 128) : (iblk m c 2 t : Vec Ideal S1x1x4096x256 .bf16) (ix4 0 0 n ⟨d, by omega⟩)
    = m ((c : Thread nD τ).loc main_arg2) (ix4 b g n d) := by
  rw [v_blk_read m c b g t hb hg, V_v8]
  pointwise

theorem vc_blk (n : Fin 256) (d : Fin 128) : (iblk m c 4 t : Vec Ideal S1x1x256x256 .bf16) (ix4 0 0 n ⟨d, by omega⟩)
    = m ((c : Thread nD τ).loc main_arg4) (ix4 b g n d) := by
  rw [vc_blk_read m c b g t hb hg, V_v15]
  pointwise

theorem v_one (n : Fin 4096) : (iblk m c 2 t : Vec Ideal S1x1x4096x256 .bf16) (ix4 0 0 n 128) = (1 : EReal) := by
  rw [v_blk_read m c b g t hb hg, V_v8]
  pointwise

theorem vc_one (n : Fin 256) : (iblk m c 4 t : Vec Ideal S1x1x256x256 .bf16) (ix4 0 0 n 128) = (1 : EReal) := by
  rw [vc_blk_read m c b g t hb hg, V_v15]
  pointwise

include hi

theorem q_blk (h : Fin 4) (n : Fin 128) (e : Fin 128) : (iblk m c 0 t : Vec Ideal S1x4x128x128 .f32) (ix4 0 h n e)
    = m ((c : Thread nD τ).loc main_arg0) (ix4 b (⟨4 * g + h, by omega⟩ : Fin 8) (⟨128 * i + n, by omega⟩ : Fin 4096) e) := by
  blk_ext [iblk, V, (idx t).1, hb, hg, hi]

end Cert.Kernel3Ideal.Gqa

end

end
-- ==== Proof.GqaValue.lean ====
/- The attention kernel's result: for finite queries and keys it is the softmax average of the values. -/
module

public import proofs.«01_k».proof.Proof.GqaSpec
public import proofs.«01_k».proof.Proof.GqaBlock
public import proofs.«01_k».proof.Proof.Gen.Kernel3Ideal.Value

@[expose] public section

set_option maxRecDepth 16384

noncomputable section

namespace Cert.Kernel3Ideal.Gqa

open Idealize.ShloMosaic Idealize.ShloMosaic.TcCoe Cert.Kernel3Ideal Cert.Kernel3Ideal.Gen

variable (m : (ℓ : Loc nD τ sig) → Buf (Elt Ideal) ℓ) (c : Dev nD)
  (qr : S4x8x4096x128.Idx → ℝ) (kr : S4x2x4096x128.Idx → ℝ) (kcr : S4x2x256x128.Idx → ℝ)
  (hq : ∀ i, (m ((c : Thread nD τ).loc main_arg0) : Vec Ideal S4x8x4096x128 .f32) i = ((qr i : ℝ) : EReal))
  (hk : ∀ i, (m ((c : Thread nD τ).loc main_arg1) : Vec Ideal S4x2x4096x128 .f32) i = ((kr i : ℝ) : EReal))
  (hkc : ∀ i, (m ((c : Thread nD τ).loc main_arg3) : Vec Ideal S4x2x256x128 .f32) i = ((kcr i : ℝ) : EReal))

include hq hk hkc

/-- What the body leaves in the result's block at a grid point. -/
theorem block (b : Fin 4) (g : Fin 2) (i : Fin 32) (t : Fin cfg0.N) (hb : (grid0.coords t 0).val = b)
    (hg : (grid0.coords t 1).val = g) (hi : (grid0.coords t 2).val = i) (y : S1x128x512.Idx) (u : Fin 8) (n : Fin 4096) (d : Fin 128)
    (hu : (u : ℕ) = 4 * g + (y 2 : ℕ) / 128) (hn : (n : ℕ) = 128 * i + (y 1 : ℕ)) (hd : (d : ℕ) = (y 2 : ℕ) % 128) :
    out0_5 (iblk m c 0 t) (iblk m c 1 t) (iblk m c 2 t) (iblk m c 3 t) (iblk m c 4 t) y
      = Cert.Gqa.attn (fun e => qr (ix4 b u n e))
        (fun j e => Cert.Gqa.join (fun n => kr (ix4 b g n e)) (fun n => kcr (ix4 b g n e)) j)
        (fun j => Cert.Gqa.join (fun n => (m ((c : Thread nD τ).loc main_arg2) : Vec Ideal S4x2x4096x128 .f32) (ix4 b g n d))
          (fun n => (m ((c : Thread nD τ).loc main_arg4) : Vec Ideal S4x2x256x128 .f32) (ix4 b g n d)) j) := by
  have h1 : (y 1 : ℕ) < 128 := (y 1).isLt
  have h2 : (y 2 : ℕ) < 512 := (y 2).isLt
  have hr : 128 * ((y 2 : ℕ) / 128) + (y 1 : ℕ) < 512 := by omega
  rw [out_apply _ _ _ _ _ y ⟨128 * ((y 2 : ℕ) / 128) + (y 1 : ℕ), hr⟩ d rfl hd, quotient,
    quotient_apply _ _ _ _ _ _ _ (fun e => qr (ix4 b u n e))
      (fun c j e => kr (ix4 b g ⟨512 * min c 7 + j, by omega⟩ e)) (fun j e => kcr (ix4 b g j e)),
    Cert.Gqa.attn_blocks]
  · refine Finset.sum_congr rfl fun p _ => ?_
    refine congrArg₂ (fun x y : EReal => x * y) ?_ ?_
    · refine congrArg (fun f : (Fin 8 × Fin 512) ⊕ Fin 256 → ℝ => ((Softmax.weight f p : ℝ) : EReal)) (funext fun p => ?_)
      rcases p with p | j
      · refine congrArg (score _) (funext fun e => ?_)
        have hp := Cert.Gqa.place_latent p
        unfold Cert.Gqa.join
        rw [dif_pos (by omega)]
        exact congrArg (fun j => kr (ix4 b g j e)) (Fin.ext (by simp only; omega))
      · refine congrArg (score _) (funext fun e => ?_)
        have hp := Cert.Gqa.place_context j
        unfold Cert.Gqa.join
        rw [dif_neg (by omega)]
        exact congrArg (fun j => kcr (ix4 b g j e)) (Fin.ext (by simp only; omega))
    · rcases p with p | j
      · have hp := Cert.Gqa.place_latent p
        unfold Cert.Gqa.join
        rw [dif_pos (by omega)]
        refine (vb_apply (iblk m c 2 t) p.1 p.2 ⟨d, by omega⟩).trans ?_
        refine (v_blk m c b g i t hb hg _ d).trans ?_
        exact congrArg (fun j => (m ((c : Thread nD τ).loc main_arg2) : Vec Ideal S4x2x4096x128 .f32) (ix4 b g j d))
          (Fin.ext (by simp only; omega))
      · have hp := Cert.Gqa.place_context j
        unfold Cert.Gqa.join
        rw [dif_neg (by omega)]
        refine (vc_apply (iblk m c 4 t) j ⟨d, by omega⟩).trans ?_
        refine (vc_blk m c b g i t hb hg _ d).trans ?_
        exact congrArg (fun j => (m ((c : Thread nD τ).loc main_arg4) : Vec Ideal S4x2x256x128 .f32) (ix4 b g j d))
          (Fin.ext (by simp only; omega))
  · intro e
    pointwise
    refine (q_blk m c b g i t hb hg hi ⟨(128 * ((y 2 : ℕ) / 128) + (y 1 : ℕ)) / 128, by omega⟩
      ⟨(128 * ((y 2 : ℕ) / 128) + (y 1 : ℕ)) % 128, by omega⟩ e).trans ?_
    rw [← hq]
    exact congrArg₂ (fun u n => (m ((c : Thread nD τ).loc main_arg0) : Vec Ideal S4x8x4096x128 .f32) (ix4 b u n e))
      (Fin.ext (by simp only; omega)) (Fin.ext (by simp only; omega))
  · intro n j e
    rw [kb_apply]
    exact (k_blk m c b g t hb hg _ e).trans (hk _)
  · intro j e
    refine (kc_apply _ _ _).trans ?_
    exact (kc_blk m c b g t hb hg _ e).trans (hkc _)
  · intro n j
    refine (vb_apply _ n j 128).trans ?_
    exact v_one m c b g t hb hg _
  · intro j
    refine (vc_apply _ _ 128).trans ?_
    exact vc_one m c b g t hb hg _

/-- The result array after all grid points. -/
theorem final (G : S4x4096x1024.Idx → EReal)
    (hG : ∀ (b : Fin 4) (n : Fin 4096) (l : Fin 1024) (g : Fin 2) (h : Fin 4) (u : Fin 8) (d : Fin 128)
      (_ : (g : ℕ) = l / 512) (_ : (h : ℕ) = l / 128 % 4) (_ : (u : ℕ) = 4 * g + h) (_ : (d : ℕ) = l % 128),
      G (ix3 b n l) = Cert.Gqa.attn (fun e => qr (ix4 b u n e))
        (fun j e => Cert.Gqa.join (fun n => kr (ix4 b g n e)) (fun n => kcr (ix4 b g n e)) j)
        (fun j => Cert.Gqa.join (fun n => (m ((c : Thread nD τ).loc main_arg2) : Vec Ideal S4x2x4096x128 .f32) (ix4 b g n d))
          (fun n => (m ((c : Thread nD τ).loc main_arg4) : Vec Ideal S4x2x256x128 .f32) (ix4 b g n d)) j)) :
    ((dats m 0 c).arrAt 5 cfg0.N : S4x4096x1024.Idx → EReal) = G := by
  refine (dats m 0 c).arrAt_eq_of_covers 5 _ (by decide +kernel) fun t hf y => ?_
  rw [after0_5]
  blk_simp
  have c0 : (grid0.coords t 0).val < 4 := (grid0.coords t 0).isLt
  have c1 : (grid0.coords t 1).val < 2 := (grid0.coords t 1).isLt
  have c2 : (grid0.coords t 2).val < 32 := (grid0.coords t 2).isLt
  have h0 : (y 0 : ℕ) < 1 := (y 0).isLt
  have h1 : (y 1 : ℕ) < 128 := (y 1).isLt
  have h2 : (y 2 : ℕ) < 512 := (y 2).isLt
  rw [block m c qr kr kcr hq hk hkc ⟨(grid0.coords t 0).val, c0⟩ ⟨(grid0.coords t 1).val, c1⟩ ⟨(grid0.coords t 2).val, c2⟩ t rfl rfl rfl y
    ⟨4 * (grid0.coords t 1).val + (y 2 : ℕ) / 128, by omega⟩ ⟨128 * (grid0.coords t 2).val + (y 1 : ℕ), by omega⟩
    ⟨(y 2 : ℕ) % 128, by omega⟩ rfl rfl rfl]
  have he : (win0_5.blk t).view.emb y = ix3 ⟨(grid0.coords t 0).val, c0⟩ ⟨128 * (grid0.coords t 2).val + (y 1 : ℕ), by omega⟩
      ⟨512 * (grid0.coords t 1).val + (y 2 : ℕ), by omega⟩ := by
    refine funext fun a => Fin.ext ?_
    blk_simp [(idx t).2.2.2.2.2]
    fin_cases a
    · show (grid0.coords t 0).val * 1 + (y 0 : ℕ) = (grid0.coords t 0).val
      omega
    · show (grid0.coords t 2).val * 128 + (y 1 : ℕ) = 128 * (grid0.coords t 2).val + (y 1 : ℕ)
      omega
    · show (grid0.coords t 1).val * 512 + (y 2 : ℕ) = 512 * (grid0.coords t 1).val + (y 2 : ℕ)
      omega
  rw [he]
  exact (hG _ _ _ ⟨(grid0.coords t 1).val, c1⟩ ⟨(y 2 : ℕ) / 128, by omega⟩ _ _ (by simp only; omega) (by simp only; omega)
    rfl (by simp only; omega)).symm

end Cert.Kernel3Ideal.Gqa

end

end
-- ==== Proof.GqaClaims.lean ====
/- The claims about the attention: the kernel and its reference agree for finite queries and keys. -/
module

public import proofs.«01_k».proof.Defs
public import proofs.«01_k».proof.Proof.GqaRef
public import proofs.«01_k».proof.Proof.GqaValue
public import proofs.«01_k».proof.Proof.Gen.Pre_finite
public import proofs.«01_k».proof.Proof.Gen.Kernel3.Frame
public import Idealize.ShloMosaic.Lib.Claim

@[expose] public section

set_option maxRecDepth 16384

noncomputable section

namespace Cert.Gqa

open Idealize.ShloMosaic Idealize.ShloMosaic.TcCoe

/-- A number whose absolute value is below plus infinity is a real. -/
theorem real_of_abs_lt (x : EReal) (h : Ideal.cmp .olt (max x (-x)) (Ideal.ofBits .f32 0x7F800000#32) = 1#1) :
    x = ((x.toReal : ℝ) : EReal) := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => rfl

/-- An array whose numbers are all found finite is an array of reals. -/
theorem real_of_finite {S : Shape} (x : FVec Ideal S .f32) (hb : (⟨0, ![]⟩ : Shape).BroadcastsInDim S ![])
    (h : cmpf .olt (Host.absf x) (broadcastInDim S ![] hb (constant ⟨0, ![]⟩ .f32 0x7F800000#32)) = fun _ => 1#1) (i : S.Idx) :
    x i = (((x i).toReal : ℝ) : EReal) :=
  real_of_abs_lt (x i) (congrFun h i)

/-- The kernel's attention and the reference's, of the same finite queries and keys and of any values. -/
theorem value (m : (ℓ : Loc Cert.Kernel3Ideal.nD Cert.Kernel3Ideal.τ Cert.Kernel3Ideal.sig) → Buf (Elt Ideal) ℓ)
    (hpre : Cert.Pre_Kernel3Ideal_finite m) (c : Dev Cert.Kernel3Ideal.nD) :
    ((Cert.Kernel3Ideal.Gen.dats m 0 c).arrAt 5 Cert.Kernel3Ideal.cfg0.N : Cert.Kernel3Ideal.S4x4096x1024.Idx → EReal)
      = Cert.Reference3Ideal.Gqa.average
        (Cert.Reference3Ideal.Gqa.cat (m ((c.tc : Thread Cert.Kernel3Ideal.nD Cert.Kernel3Ideal.τ).loc Cert.Kernel3Ideal.main_arg2))
          (m ((c.tc : Thread Cert.Kernel3Ideal.nD Cert.Kernel3Ideal.τ).loc Cert.Kernel3Ideal.main_arg4)))
        (Cert.Reference3Ideal.Gqa.probs (Cert.Reference3Ideal.Gqa.scores
          (m ((c.tc : Thread Cert.Kernel3Ideal.nD Cert.Kernel3Ideal.τ).loc Cert.Kernel3Ideal.main_arg0))
          (m ((c.tc : Thread Cert.Kernel3Ideal.nD Cert.Kernel3Ideal.τ).loc Cert.Kernel3Ideal.main_arg1))
          (m ((c.tc : Thread Cert.Kernel3Ideal.nD Cert.Kernel3Ideal.τ).loc Cert.Kernel3Ideal.main_arg3)))) := by
  obtain ⟨h0, h1, h3⟩ := hpre c
  have r0 := real_of_finite _ _ h0
  have r1 := real_of_finite _ _ h1
  have r3 := real_of_finite _ _ h3
  refine Cert.Kernel3Ideal.Gqa.final m c _ _ _ r0 r1 r3 _ fun b n l g h u d hg hh hu hd => ?_
  exact Cert.Reference3Ideal.Gqa.finite _ _ _ _ _ _ _ _ r0 r1 r3 b n l g h u d hg hh hu hd

/-- The two programs end with equal results. -/
theorem algebraic : Cert.algebraic_Kernel3Ideal_Reference3Ideal_pre_finite := by
  pair_intro
  · run_from Cert.Kernel3Ideal.Value.run_blocks m g
  · run_from Cert.Reference3Ideal.Value.run m' g'
    rw [Cert.Reference3Ideal.Gqa.result]
    obtain ⟨a0, a1, a2, a3, a4⟩ := hagree c
    rw [a0, a1, a2, a3, a4]
    exact (value m hpre c).symm

/-- The reference runs, leaves its arguments unchanged and has no semaphore. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The same for finite queries and keys. -/
theorem frame_reference_finite : Cert.quiescent_Reference3Ideal_pre_finite := fun m g _ => frame_reference m g trivial

/-- Both named constants stand for the numbers their words round. -/
theorem preserves : Cert.preserves_Kernel3_Kernel3Ideal :=
  ⟨IdealRules.named_const.statement Cert.Kernel3Ideal.κ "scale2" .f32 0x3E0293EE#32 _ rfl,
    IdealRules.named_const.statement Cert.Kernel3Ideal.κ "lowest" .f32 0xF149F2CA#32 ⊥ rfl⟩

end Cert.Gqa

end

end
-- ==== Proof.OutStep.lean ====
/- The output projection's kernel at a grid point: the sum of its three products, normalised, gated and added to the
   residual, and the next norm of that row. -/
module

public import proofs.«01_k».proof.Proof.DenseSpec
public import proofs.«01_k».proof.Proof.Gen.Kernel4Ideal.Frame
public import Idealize.ShloMosaic.Lib.Pointwise
public import Idealize.ShloMosaic.Lib.IdealHost
public import Idealize.ShloMosaic.Lib.Pipeline.ValueKit

@[expose] public section

set_option maxRecDepth 16384

noncomputable section

namespace Cert.Out

open Idealize.ShloMosaic

/-- A number of a row divided by the row's root mean square. -/
def unit (s : Fin 2048 → EReal) (e : Fin 2048) : EReal :=
  s e * Ideal.rsqrt (Ideal.div (∑ k : Fin 2048, s k * s k) (Ideal.ofBits .f32 0x45000000#32) + Ideal.ofBits .f32 0x358637BD#32)

/-- The next norm and modulation of a row. -/
def next (s : Fin 2048 → EReal) (g sc sh : EReal) (e : Fin 2048) : EReal := unit s e * g * (1 + sc) + sh

end Cert.Out

namespace Cert.Kernel4Ideal.Out

open Idealize.ShloMosaic Idealize.ShloMosaic.TcCoe Cert.Kernel4Ideal Cert.Kernel4Ideal.Gen Cert.Out

/-- A number of the sum of the three products, of the values the body loads. -/
def acc (a : Vec Ideal S1x256x512 .bf16) (u : Vec Ideal S512x2048 .bf16) (b : Vec Ideal S1x256x1024 .bf16)
    (v : Vec Ideal S1024x2048 .bf16) (d : Vec Ideal S1x256x512 .bf16) (w : Vec Ideal S512x2048 .bf16) (r : Fin 256) (e : Fin 2048) : EReal :=
  (∑ k : Fin 512, a (ix3 0 r k) * u (ix2 k e)) + (∑ k : Fin 1024, b (ix3 0 r k) * v (ix2 k e))
    + ∑ k : Fin 512, d (ix3 0 r k) * w (ix2 k e)

/-- A number of the normalised sum. -/
theorem pay6_apply (a : Vec Ideal S1x256x512 .bf16) (u : Vec Ideal S512x2048 .bf16) (b : Vec Ideal S1x256x1024 .bf16)
    (v : Vec Ideal S1024x2048 .bf16) (d : Vec Ideal S1x256x512 .bf16) (w : Vec Ideal S512x2048 .bf16) (r : Fin 256) (e : Fin 2048) :
    k0_pay6 a u b v d w (ix2 r e) = unit (fun k => acc a u b v d w r k) e := by
  unfold unit acc
  pointwise [k0_pay6]

/-- A number of the residual plus the gated row. -/
theorem pay1_apply (x : Vec Ideal S1x256x2048 .f32) (t : Vec Ideal S1x1x2048 .f32) (s : FVec Ideal S256x2048 .f32)
    (p : Vec Ideal S1x2048 .f32) (r : Fin 256) (e : Fin 2048) :
    k0_pay1 (k0_pay4 x) (k0_pay5 t) s p (ix2 r e) = x (ix3 0 r e) + t (ix3 0 0 e) * (s (ix2 r e) * p (ix2 0 e)) := by
  pointwise [k0_pay1, k0_pay4, k0_pay5]

/-- The first result is that row, -/
theorem pay2_apply (x : FVec Ideal S256x2048 .f32) (t : FVec Ideal S1x2048 .f32) (s : FVec Ideal S256x2048 .f32)
    (p : Vec Ideal S1x2048 .f32) (r : Fin 256) (e : Fin 2048) : k0_pay2 x t s p (ix3 0 r e) = k0_pay1 x t s p (ix2 r e) := by
  pointwise [k0_pay2]

/-- and the second its norm and modulation. -/
theorem pay3_apply (x : FVec Ideal S256x2048 .f32) (t : FVec Ideal S1x2048 .f32) (s : FVec Ideal S256x2048 .f32)
    (p g : Vec Ideal S1x2048 .f32) (sc sh : Vec Ideal S1x1x2048 .f32) (r : Fin 256) (e : Fin 2048) :
    k0_pay3 x t s p g sc sh (ix3 0 r e)
      = next (fun k => k0_pay1 x t s p (ix2 r k)) (g (ix2 0 e)) (sc (ix3 0 0 e)) (sh (ix3 0 0 e)) e := by
  unfold next unit
  pointwise [k0_pay3]

variable (x0 : Vec Ideal S1x256x512 .bf16) (x1 : Vec Ideal S1x256x1024 .bf16) (x2 : Vec Ideal S1x256x512 .bf16)
  (x3 : Vec Ideal S2048x2048 .bf16) (x4 : Vec Ideal S1x256x2048 .f32) (x5 : Vec Ideal S1x2048 .f32) (x6 : Vec Ideal S1x1x2048 .f32)
  (x7 : Vec Ideal S1x2048 .f32) (x8 x9 : Vec Ideal S1x1x2048 .f32)

/-- A number of the projection, of the windows' blocks. -/
def lin (x0 : Vec Ideal S1x256x512 .bf16) (x1 : Vec Ideal S1x256x1024 .bf16) (x2 : Vec Ideal S1x256x512 .bf16)
    (x3 : Vec Ideal S2048x2048 .bf16) (r : Fin 256) (e : Fin 2048) : EReal :=
  (∑ k : Fin 512, x0 (ix3 0 r k) * x3 (ix2 ⟨k, by omega⟩ e)) + (∑ k : Fin 1024, x1 (ix3 0 r k) * x3 (ix2 ⟨512 + k, by omega⟩ e))
    + ∑ k : Fin 512, x2 (ix3 0 r k) * x3 (ix2 ⟨1536 + k, by omega⟩ e)

/-- The loads' sum is the blocks'. -/
theorem acc_ld (r : Fin 256) (e : Fin 2048) : acc (View.ld x0 r0_0) (View.ld x3 r0_1) (View.ld x1 r0_2) (View.ld x3 r0_3)
    (View.ld x2 r0_0) (View.ld x3 r0_4) r e = lin x0 x1 x2 x3 r e := by
  unfold acc lin
  refine congrArg₂ (fun x y : EReal => x + y) (congrArg₂ (fun x y : EReal => x + y) ?_ ?_) ?_ <;>
    refine Finset.sum_congr rfl fun k _ => congrArg₂ (fun x y : EReal => x * y) ?_ ?_
  · pointwise
  · pointwise
    try exact congrArg (fun u => x3 (ix2 u e)) (Fin.ext (by simp only; omega))
  · pointwise
  · pointwise
    try exact congrArg (fun u => x3 (ix2 u e)) (Fin.ext (by simp only; omega))
  · pointwise
  · pointwise
    try exact congrArg (fun u => x3 (ix2 u e)) (Fin.ext (by simp only; omega))

/-- A number of the residual plus the gated row, of the blocks. -/
theorem row_apply (r : Fin 256) (e : Fin 2048) :
    k0_pay1 (k0_pay7 x0 x1 x2 x3 x4 x5 x6 x7 x8 x9) (k0_pay8 x0 x1 x2 x3 x4 x5 x6 x7 x8 x9) (k0_pay9 x0 x1 x2 x3 x4 x5 x6 x7 x8 x9)
      (View.ld x5 r0_7) (ix2 r e)
      = Cert.Dense.post (x4 (ix3 0 r e)) (x6 (ix3 0 0 e)) (x5 (ix2 0 e)) (fun k => lin x0 x1 x2 x3 r k) e := by
  unfold k0_pay7 k0_pay8 k0_pay9
  refine (pay1_apply _ _ _ _ r e).trans ?_
  rw [pay6_apply, funext fun k => acc_ld x0 x1 x2 x3 r k]
  refine congrArg₂ (fun x y : EReal => x + y) ?_ (congrArg₂ (fun x y : EReal => x * y) ?_
    (congrArg (fun y : EReal => unit (fun k => lin x0 x1 x2 x3 r k) e * y) ?_)) <;> pointwise

/-- The block of the first result, -/
theorem out10_apply (r : Fin 256) (e : Fin 2048) : out0_10 x0 x1 x2 x3 x4 x5 x6 x7 x8 x9 (ix3 0 r e)
    = Cert.Dense.post (x4 (ix3 0 r e)) (x6 (ix3 0 0 e)) (x5 (ix2 0 e)) (fun k => lin x0 x1 x2 x3 r k) e := by
  refine Eq.trans ?_ (row_apply x0 x1 x2 x3 x4 x5 x6 x7 x8 x9 r e)
  refine Eq.trans ?_ (pay2_apply _ _ _ _ r e)
  unfold out0_10
  canon_tiles x h
  have hx : x = ix3 0 r e := by
    refine funext fun a => ?_
    fin_cases a
    · exact Fin.ext h0.symm
    · exact Fin.ext h1.symm
    · exact Fin.ext h2.symm
  rw [hx]

/-- and of the second. -/
theorem out11_apply (r : Fin 256) (e : Fin 2048) : out0_11 x0 x1 x2 x3 x4 x5 x6 x7 x8 x9 (ix3 0 r e)
    = next (fun k => Cert.Dense.post (x4 (ix3 0 r k)) (x6 (ix3 0 0 k)) (x5 (ix2 0 k)) (fun j => lin x0 x1 x2 x3 r j) k)
        (x7 (ix2 0 e)) (x9 (ix3 0 0 e)) (x8 (ix3 0 0 e)) e := by
  rw [funext fun k => (row_apply x0 x1 x2 x3 x4 x5 x6 x7 x8 x9 r k).symm]
  have h7 : x7 (ix2 0 e) = View.ld x7 r0_7 (ix2 0 e) := by pointwise
  have h9 : x9 (ix3 0 0 e) = View.ld x9 r0_6 (ix3 0 0 e) := by pointwise
  have h8 : x8 (ix3 0 0 e) = View.ld x8 r0_6 (ix3 0 0 e) := by pointwise
  rw [h7, h8, h9]
  refine Eq.trans ?_ (pay3_apply _ _ _ _ _ _ _ r e)
  unfold out0_11
  canon_tiles x h
  have hx : x = ix3 0 r e := by
    refine funext fun a => ?_
    fin_cases a
    · exact Fin.ext h0.symm
    · exact Fin.ext h1.symm
    · exact Fin.ext h2.symm
  rw [hx]

end Cert.Kernel4Ideal.Out

end

end
-- ==== Proof.OutSpec.lean ====
/- The output projection over the extended reals, of whole arrays, and the kernel's two results. -/
module

public import proofs.«01_k».proof.Proof.OutStep
public import proofs.«01_k».proof.Proof.Gen.Kernel4Ideal.Value

@[expose] public section

set_option maxRecDepth 16384

noncomputable section

namespace Cert.Out

open Idealize.ShloMosaic Cert.Kernel4Ideal

variable (oa : S4x4096x512.Idx → EReal) (ob : S4x4096x1024.Idx → EReal) (oc : S4x4096x512.Idx → EReal)
  (w : S2048x2048.Idx → EReal) (x : S4x4096x2048.Idx → EReal) (p : S1x2048.Idx → EReal) (t : S4x1x2048.Idx → EReal)
  (g : S1x2048.Idx → EReal) (sh sc : S4x1x2048.Idx → EReal)

/-- A number of the projection of a token: its three parts against their rows of the weight. -/
def proj (b : Fin 4) (n : Fin 4096) (e : Fin 2048) : EReal :=
  (∑ k : Fin 512, oa (ix3 b n k) * w (ix2 ⟨k, by omega⟩ e)) + (∑ k : Fin 1024, ob (ix3 b n k) * w (ix2 ⟨512 + k, by omega⟩ e))
    + ∑ k : Fin 512, oc (ix3 b n k) * w (ix2 ⟨1536 + k, by omega⟩ e)

/-- A number of the residual plus the gated norm of the projection. -/
def row (b : Fin 4) (n : Fin 4096) (e : Fin 2048) : EReal :=
  Cert.Dense.post (x (ix3 b n e)) (t (ix3 b 0 e)) (p (ix2 0 e)) (fun k => proj oa ob oc w b n k) e

/-- The first result. -/
def first (y : S4x4096x2048.Idx) : EReal := row oa ob oc w x p t (y 0) (y 1) (y 2)

/-- The second result: the next norm and modulation of the first. -/
def second (y : S4x4096x2048.Idx) : EReal :=
  next (fun k => row oa ob oc w x p t (y 0) (y 1) k) (g (ix2 0 (y 2))) (sc (ix3 (y 0) 0 (y 2))) (sh (ix3 (y 0) 0 (y 2))) (y 2)

end Cert.Out

namespace Cert.Kernel4Ideal.Out

open Idealize.ShloMosaic Idealize.ShloMosaic.TcCoe Cert.Kernel4Ideal Cert.Kernel4Ideal.Gen Cert.Out

/-- Which block each window takes at a grid point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0]
    ∧ win0_4.index t = ![t.val / 16, t.val % 16, 0] ∧ win0_5.index t = ![0, 0]
    ∧ win0_6.index t = ![t.val / 16, 0, 0] ∧ win0_7.index t = ![0, 0] ∧ win0_8.index t = ![t.val / 16, 0, 0]
    ∧ win0_9.index t = ![t.val / 16, 0, 0] ∧ win0_10.index t = ![t.val / 16, t.val % 16, 0]
    ∧ win0_11.index t = ![t.val / 16, t.val % 16, 0] :=
  (by decide +kernel : ∀ t : Fin grid0.N, win0_0.index t = ![t.val / 16, t.val % 16, 0] ∧ win0_1.index t = ![t.val / 16, t.val % 16, 0]
    ∧ win0_2.index t = ![t.val / 16, t.val % 16, 0] ∧ win0_3.index t = ![0, 0]
    ∧ win0_4.index t = ![t.val / 16, t.val % 16, 0] ∧ win0_5.index t = ![0, 0]
    ∧ win0_6.index t = ![t.val / 16, 0, 0] ∧ win0_7.index t = ![0, 0] ∧ win0_8.index t = ![t.val / 16, 0, 0]
    ∧ win0_9.index t = ![t.val / 16, 0, 0] ∧ win0_10.index t = ![t.val / 16, t.val % 16, 0]
    ∧ win0_11.index t = ![t.val / 16, t.val % 16, 0])

variable (m : (ℓ : Loc nD τ sig) → Buf (Elt Ideal) ℓ) (c : Dev nD)

/-- The arguments by name: the first attention's output, -/
abbrev OA : S4x4096x512.Idx → EReal := m ((c : Thread nD τ).loc main_arg0)
/-- the second's, -/
abbrev OB : S4x4096x1024.Idx → EReal := m ((c : Thread nD τ).loc main_arg1)
/-- the third part, -/
abbrev OC : S4x4096x512.Idx → EReal := m ((c : Thread nD τ).loc main_arg2)
/-- the weight, -/
abbrev W : S2048x2048.Idx → EReal := m ((c : Thread nD τ).loc main_arg3)
/-- the residual, -/
abbrev X : S4x4096x2048.Idx → EReal := m ((c : Thread nD τ).loc main_arg4)
/-- the closing norm's weight, -/
abbrev P : S1x2048.Idx → EReal := m ((c : Thread nD τ).loc main_arg5)
/-- the gate, -/
abbrev T : S4x1x2048.Idx → EReal := m ((c : Thread nD τ).loc main_arg6)
/-- the next norm's weight, -/
abbrev G : S1x2048.Idx → EReal := m ((c : Thread nD τ).loc main_arg7)
/-- its shift, -/
abbrev SH : S4x1x2048.Idx → EReal := m ((c : Thread nD τ).loc main_arg8)
/-- and its scale. -/
abbrev SC : S4x1x2048.Idx → EReal := m ((c : Thread nD τ).loc main_arg9)

/-- A number of the first part's block, -/
theorem oa_blk (t : Fin cfg0.N) (b : Fin 4) (hb : t.val / 16 = b) (i : Fin 16) (hi : t.val % 16 = i) (r : Fin 256) (d : Fin 512) :
    (iblk m c 0 t : Vec Ideal S1x256x512 .bf16) (ix3 0 r d) = OA m c (ix3 b ⟨i * 256 + r, by omega⟩ d) := by
  blk_ext [iblk, V, (idx t).1, hb, hi]

/-- of the second's, -/
theorem ob_blk (t : Fin cfg0.N) (b : Fin 4) (hb : t.val / 16 = b) (i : Fin 16) (hi : t.val % 16 = i) (r : Fin 256) (d : Fin 1024) :
    (iblk m c 1 t : Vec Ideal S1x256x1024 .bf16) (ix3 0 r d) = OB m c (ix3 b ⟨i * 256 + r, by omega⟩ d) := by
  blk_ext [iblk, V, (idx t).2.1, hb, hi]

/-- of the third's, -/
theorem oc_blk (t : Fin cfg0.N) (b : Fin 4) (hb : t.val / 16 = b) (i : Fin 16) (hi : t.val % 16 = i) (r : Fin 256) (d : Fin 512) :
    (iblk m c 2 t : Vec Ideal S1x256x512 .bf16) (ix3 0 r d) = OC m c (ix3 b ⟨i * 256 + r, by omega⟩ d) := by
  blk_ext [iblk, V, (idx t).2.2.1, hb, hi]

/-- of the weight, -/
theorem w_blk (t : Fin cfg0.N) (k e : Fin 2048) : (iblk m c 3 t : Vec Ideal S2048x2048 .bf16) (ix2 k e) = W m c (ix2 k e) := by
  blk_ext [iblk, V, (idx t).2.2.2.1]

/-- of the residual, -/
theorem x_blk (t : Fin cfg0.N) (b : Fin 4) (hb : t.val / 16 = b) (i : Fin 16) (hi : t.val % 16 = i) (r : Fin 256) (d : Fin 2048) :
    (iblk m c 4 t : Vec Ideal S1x256x2048 .f32) (ix3 0 r d) = X m c (ix3 b ⟨i * 256 + r, by omega⟩ d) := by
  blk_ext [iblk, V, (idx t).2.2.2.2.1, hb, hi]

/-- of the closing norm's weight, -/
theorem p_blk (t : Fin cfg0.N) (e : Fin 2048) : (iblk m c 5 t : Vec Ideal S1x2048 .f32) (ix2 0 e) = P m c (ix2 0 e) := by
  blk_ext [iblk, V, (idx t).2.2.2.2.2.1]

/-- of the gate, -/
theorem t_blk (t : Fin cfg0.N) (b : Fin 4) (hb : t.val / 16 = b) (e : Fin 2048) : (iblk m c 6 t : Vec Ideal S1x1x2048 .f32) (ix3 0 0 e) = T m c (ix3 b 0 e) := by
  blk_ext [iblk, V, (idx t).2.2.2.2.2.2.1, hb]

/-- of the next norm's weight, -/
theorem g_blk (t : Fin cfg0.N) (e : Fin 2048) : (iblk m c 7 t : Vec Ideal S1x2048 .f32) (ix2 0 e) = G m c (ix2 0 e) := by
  blk_ext [iblk, V, (idx t).2.2.2.2.2.2.2.1]

/-- of its shift, -/
theorem sh_blk (t : Fin cfg0.N) (b : Fin 4) (hb : t.val / 16 = b) (e : Fin 2048) : (iblk m c 8 t : Vec Ideal S1x1x2048 .f32) (ix3 0 0 e) = SH m c (ix3 b 0 e) := by
  blk_ext [iblk, V, (idx t).2.2.2.2.2.2.2.2.1, hb]

/-- and of its scale. -/
theorem sc_blk (t : Fin cfg0.N) (b : Fin 4) (hb : t.val / 16 = b) (e : Fin 2048) : (iblk m c 9 t : Vec Ideal S1x1x2048 .f32) (ix3 0 0 e) = SC m c (ix3 b 0 e) := by
  blk_ext [iblk, V, (idx t).2.2.2.2.2.2.2.2.2.1, hb]

/-- The blocks' projection is the arguments'. -/
theorem lin_blk (t : Fin cfg0.N) (b : Fin 4) (hb : t.val / 16 = b) (i : Fin 16) (hi : t.val % 16 = i) (r : Fin 256) (e : Fin 2048) :
    lin (iblk m c 0 t) (iblk m c 1 t) (iblk m c 2 t) (iblk m c 3 t) r e
      = proj (OA m c) (OB m c) (OC m c) (W m c) b ⟨i * 256 + r, by omega⟩ e := by
  unfold lin proj
  refine congrArg₂ (fun x y : EReal => x + y) (congrArg₂ (fun x y : EReal => x + y) ?_ ?_) ?_ <;>
    refine Finset.sum_congr rfl fun k _ => congrArg₂ (fun x y : EReal => x * y) ?_ (w_blk m c t _ e)
  · exact oa_blk m c t b hb i hi r k
  · exact ob_blk m c t b hb i hi r k
  · exact oc_blk m c t b hb i hi r k

/-- A number of the blocks' gated row is the arguments'. -/
theorem row_blk (t : Fin cfg0.N) (b : Fin 4) (hb : t.val / 16 = b) (i : Fin 16) (hi : t.val % 16 = i) (r : Fin 256) (e : Fin 2048) :
    Cert.Dense.post ((iblk m c 4 t : Vec Ideal S1x256x2048 .f32) (ix3 0 r e)) ((iblk m c 6 t : Vec Ideal S1x1x2048 .f32) (ix3 0 0 e))
        ((iblk m c 5 t : Vec Ideal S1x2048 .f32) (ix2 0 e)) (fun k => lin (iblk m c 0 t) (iblk m c 1 t) (iblk m c 2 t) (iblk m c 3 t) r k) e
      = row (OA m c) (OB m c) (OC m c) (W m c) (X m c) (P m c) (T m c) b ⟨i * 256 + r, by omega⟩ e := by
  rw [x_blk m c t b hb i hi, t_blk m c t b hb, p_blk m c t, funext fun k => lin_blk m c t b hb i hi r k]
  rfl

/-- The first result array after all grid points. -/
theorem final_first : ((dats m 0 c).arrAt 10 cfg0.N : S4x4096x2048.Idx → EReal)
    = first (OA m c) (OB m c) (OC m c) (W m c) (X m c) (P m c) (T m c) := by
  refine (dats m 0 c).arrAt_eq_of_covers 10 _ (by decide +kernel) fun t hf y => ?_
  have hN : t.val < 64 := lt_of_lt_of_eq t.isLt (show cfg0.N = 64 from N_0)
  rw [after0_10]
  blk_simp
  have h0 : (y 0 : ℕ) < 1 := (y 0).isLt
  have h1 : (y 1 : ℕ) < 256 := (y 1).isLt
  have h2 : (y 2 : ℕ) < 2048 := (y 2).isLt
  have he : (win0_10.blk t).view.emb y = ix3 ⟨t.val / 16, by omega⟩ ⟨t.val % 16 * 256 + (y 1 : ℕ), by omega⟩ ⟨y 2, h2⟩ := by
    refine funext fun a => Fin.ext ?_
    blk_simp [(idx t).2.2.2.2.2.2.2.2.2.2.1]
    fin_cases a
    · show t.val / 16 * 1 + (y 0 : ℕ) = t.val / 16
      omega
    · rfl
    · show 0 * 2048 + (y 2 : ℕ) = (y 2 : ℕ)
      omega
  have hy : y = ix3 0 ⟨y 1, h1⟩ ⟨y 2, h2⟩ := by
    refine funext fun a => ?_
    fin_cases a
    · exact Fin.ext (by show (y 0 : ℕ) = 0; omega)
    · rfl
    · rfl
  rw [he]
  refine (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans ?_
  refine (out10_apply _ _ _ _ _ _ _ _ _ _ _ _).trans ?_
  exact row_blk m c t ⟨t.val / 16, by omega⟩ rfl ⟨t.val % 16, by omega⟩ rfl _ _

/-- The second result array after all grid points. -/
theorem final_second : ((dats m 0 c).arrAt 11 cfg0.N : S4x4096x2048.Idx → EReal)
    = second (OA m c) (OB m c) (OC m c) (W m c) (X m c) (P m c) (T m c) (G m c) (SH m c) (SC m c) := by
  refine (dats m 0 c).arrAt_eq_of_covers 11 _ (by decide +kernel) fun t hf y => ?_
  have hN : t.val < 64 := lt_of_lt_of_eq t.isLt (show cfg0.N = 64 from N_0)
  rw [after0_11]
  blk_simp
  have h0 : (y 0 : ℕ) < 1 := (y 0).isLt
  have h1 : (y 1 : ℕ) < 256 := (y 1).isLt
  have h2 : (y 2 : ℕ) < 2048 := (y 2).isLt
  have he : (win0_11.blk t).view.emb y = ix3 ⟨t.val / 16, by omega⟩ ⟨t.val % 16 * 256 + (y 1 : ℕ), by omega⟩ ⟨y 2, h2⟩ := by
    refine funext fun a => Fin.ext ?_
    blk_simp [(idx t).2.2.2.2.2.2.2.2.2.2.2]
    fin_cases a
    · show t.val / 16 * 1 + (y 0 : ℕ) = t.val / 16
      omega
    · rfl
    · show 0 * 2048 + (y 2 : ℕ) = (y 2 : ℕ)
      omega
  have hy : y = ix3 0 ⟨y 1, h1⟩ ⟨y 2, h2⟩ := by
    refine funext fun a => ?_
    fin_cases a
    · exact Fin.ext (by show (y 0 : ℕ) = 0; omega)
    · rfl
    · rfl
  rw [he]
  refine (congrArg (out0_11 (iblk m c 0 t) (iblk m c 1 t) (iblk m c 2 t) (iblk m c 3 t) (iblk m c 4 t) (iblk m c 5 t) (iblk m c 6 t) (iblk m c 7 t) (iblk m c 8 t) (iblk m c 9 t)) hy).trans ?_
  refine (out11_apply _ _ _ _ _ _ _ _ _ _ _ _).trans ?_
  rw [funext fun k => row_blk m c t ⟨t.val / 16, by omega⟩ rfl ⟨t.val % 16, by omega⟩ rfl ⟨y 1, h1⟩ k, g_blk m c t,
    sc_blk m c t ⟨t.val / 16, by omega⟩ rfl, sh_blk m c t ⟨t.val / 16, by omega⟩ rfl]
  rfl

end Cert.Kernel4Ideal.Out

end

end
-- ==== Proof.OutClaims.lean ====
/- The claims about the output projection: the kernel and its reference agree for all arguments. -/
module

public import proofs.«01_k».proof.Defs
public import proofs.«01_k».proof.Proof.OutSpec
public import proofs.«01_k».proof.Proof.Gen.Reference4Ideal.Run
public import proofs.«01_k».proof.Proof.Gen.Kernel4.Frame
public import Idealize.ShloMosaic.Lib.Claim

@[expose] public section

set_option maxRecDepth 16384

noncomputable section

namespace Cert.Reference4Ideal.Out

open Idealize.ShloMosaic Idealize.ShloMosaic.TcCoe Cert.Reference4Ideal Cert.Reference4Ideal.Gen Cert.Out

variable (oa : FVec Ideal S4x4096x512 .f32) (ob : FVec Ideal S4x4096x1024 .f32) (oc : FVec Ideal S4x4096x512 .f32)
  (w : FVec Ideal S2048x2048 .f32) (x : FVec Ideal S4x4096x2048 .f32) (p : FVec Ideal S1x2048 .f32) (t : FVec Ideal S4x1x2048 .f32)
  (g : FVec Ideal S1x2048 .f32) (sh sc : FVec Ideal S4x1x2048 .f32)

/-- The reference's joined parts. -/
def joined (oa : FVec Ideal S4x4096x512 .f32) (ob : FVec Ideal S4x4096x1024 .f32) (oc : FVec Ideal S4x4096x512 .f32) : FVec Ideal S4x4096x2048 .f32 :=
  concatenate S4x4096x2048 2 [⟨S4x4096x512, (oa : (⟨S4x4096x512, .f32⟩ : BufTy).Contents (Elt Ideal))⟩, ⟨S4x4096x1024, (ob : (⟨S4x4096x1024, .f32⟩ : BufTy).Contents (Elt Ideal))⟩, ⟨S4x4096x512, (oc : (⟨S4x4096x512, .f32⟩ : BufTy).Contents (Elt Ideal))⟩] concatenates_S4x4096x512_S4x4096x1024_S4x4096x512_S4x4096x2048_d2

/-- Their product with the weight. -/
def product (a : FVec Ideal S4x4096x2048 .f32) (w : FVec Ideal S2048x2048 .f32) : FVec Ideal S4x4096x2048 .f32 :=
  Host.dotGeneral dot_S4x4096x2048_S2048x2048_S4x4096x2048_2_0_01_1_n_n none a w

/-- A norm of the reference. -/
def rms (o : FVec Ideal S4x4096x2048 .f32) (p : FVec Ideal S1x2048 .f32) : FVec Ideal S4x4096x2048 .f32 :=
  mulf (mulf o (broadcastInDim S4x4096x2048 ![0, 1, 2] bcast_S4x4096x1_S4x4096x2048_0_1_2 (Host.rsqrt (addf
      (Host.divf (broadcastInDim S4x4096x1 ![0, 1] bcast_S4x4096_S4x4096x1_0_1
        (Host.reduceAdd (mulf o o) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![1, 2] bcast_S1x2048_S1x1x2048_1_2 p))

/-- The norm, gated and added to the residual. -/
def gated (o x : FVec Ideal S4x4096x2048 .f32) (p : FVec Ideal S1x2048 .f32) (t : FVec Ideal S4x1x2048 .f32) : FVec Ideal S4x4096x2048 .f32 :=
  addf x (mulf (broadcastInDim S4x4096x2048 ![0, 1, 2] bcast_S4x1x2048_S4x4096x2048_0_1_2 t) (rms o p))

/-- The next norm, modulated. -/
def modulated (z : FVec Ideal S4x4096x2048 .f32) (g : FVec Ideal S1x2048 .f32) (sh sc : FVec Ideal S4x1x2048 .f32) : FVec Ideal S4x4096x2048 .bf16 :=
  truncf .bf16 (addf (mulf (rms z g) (broadcastInDim S4x4096x2048 ![0, 1, 2] bcast_S4x1x2048_S4x4096x2048_0_1_2
    (addf (broadcastInDim S4x1x2048 ![] bcast_S_S4x1x2048 (constant S_ .f32 0x3F800000#32)) sc)))
    (broadcastInDim S4x4096x2048 ![0, 1, 2] bcast_S4x1x2048_S4x4096x2048_0_1_2 sh)) bitsLt_bf16_f32

/-- A number of the first part, -/
theorem joined_a (b : Fin 4) (n : Fin 4096) (k : Fin 512) : joined oa ob oc (ix3 b n ⟨k, by omega⟩) = oa (ix3 b n k) := by
  unfold joined
  exact concatenate_apply_piece (t := S4x4096x2048) (2 : Fin 3) _ _ _ 0 (by simp only [List.length_cons, List.length_nil]; omega) S4x4096x512 oa rfl rfl 0 rfl (ix3 b n k)
    (fun q hq => by fin_cases q <;> first | rfl | exact absurd rfl hq) (Nat.zero_add _)

/-- of the second, -/
theorem joined_b (b : Fin 4) (n : Fin 4096) (k : Fin 1024) : joined oa ob oc (ix3 b n ⟨512 + k, by omega⟩) = ob (ix3 b n k) := by
  unfold joined
  exact concatenate_apply_piece (t := S4x4096x2048) (2 : Fin 3) _ _ _ 1 (by simp only [List.length_cons, List.length_nil]; omega) S4x4096x1024 ob rfl rfl 512 rfl (ix3 b n k)
    (fun q hq => by fin_cases q <;> first | rfl | exact absurd rfl hq) rfl

/-- and of the third. -/
theorem joined_c (b : Fin 4) (n : Fin 4096) (k : Fin 512) : joined oa ob oc (ix3 b n ⟨1536 + k, by omega⟩) = oc (ix3 b n k) := by
  unfold joined
  exact concatenate_apply_piece (t := S4x4096x2048) (2 : Fin 3) _ _ _ 2 (by simp only [List.length_cons, List.length_nil]; omega) S4x4096x512 oc rfl rfl 1536 rfl (ix3 b n k)
    (fun q hq => by fin_cases q <;> first | rfl | exact absurd rfl hq) rfl

/-- A sum over the joined width is the sums over the three parts. -/
theorem sum_parts (f : Fin 2048 → EReal) : ∑ k : Fin 2048, f k
    = (∑ k : Fin 512, f ⟨k, by omega⟩) + (∑ k : Fin 1024, f ⟨512 + k, by omega⟩) + ∑ k : Fin 512, f ⟨1536 + k, by omega⟩ := by
  have h1 := Fin.sum_univ_add (M := EReal) (a := 1536) (b := 512) f
  have h2 := Fin.sum_univ_add (M := EReal) (a := 512) (b := 1024) (fun k : Fin 1536 => f ⟨k, by omega⟩)
  refine h1.trans (congrArg₂ (fun x y : EReal => x + y) (h2.trans ?_) ?_)
  · rfl
  · rfl

/-- A number of the product. -/
theorem product_apply (a : FVec Ideal S4x4096x2048 .f32) (b : Fin 4) (n : Fin 4096) (e : Fin 2048) :
    product a w (ix3 b n e) = ∑ f : Fin 2048, a (ix3 b n f) * w (ix2 f e) := by
  pointwise [product]

/-- The reference's projection. -/
theorem proj_apply (b : Fin 4) (n : Fin 4096) (e : Fin 2048) : product (joined oa ob oc) w (ix3 b n e) = proj oa ob oc w b n e := by
  rw [product_apply, sum_parts]
  unfold proj
  refine congrArg₂ (fun x y : EReal => x + y) (congrArg₂ (fun x y : EReal => x + y) ?_ ?_) ?_ <;>
    refine Finset.sum_congr rfl fun k _ => congrArg (· * _) ?_
  · exact joined_a oa ob oc b n k
  · exact joined_b oa ob oc b n k
  · exact joined_c oa ob oc b n k

/-- A number of a norm. -/
theorem rms_apply (o : FVec Ideal S4x4096x2048 .f32) (b : Fin 4) (n : Fin 4096) (e : Fin 2048) :
    rms o p (ix3 b n e) = unit (fun k => o (ix3 b n k)) e * p (ix2 0 e) := by
  unfold unit
  pointwise [rms]

/-- A number of the gated row. -/
theorem gated_apply (o : FVec Ideal S4x4096x2048 .f32) (b : Fin 4) (n : Fin 4096) (e : Fin 2048) :
    gated o x p t (ix3 b n e) = Cert.Dense.post (x (ix3 b n e)) (t (ix3 b 0 e)) (p (ix2 0 e)) (fun k => o (ix3 b n k)) e := by
  refine Eq.trans (b := x (ix3 b n e) + t (ix3 b 0 e) * rms o p (ix3 b n e)) ?_ ?_
  · pointwise [gated]
  · rw [rms_apply]
    rfl

/-- A number of the modulated norm. -/
theorem modulated_apply (z : FVec Ideal S4x4096x2048 .f32) (b : Fin 4) (n : Fin 4096) (e : Fin 2048) :
    modulated z g sh sc (ix3 b n e) = next (fun k => z (ix3 b n k)) (g (ix2 0 e)) (sc (ix3 b 0 e)) (sh (ix3 b 0 e)) e := by
  refine Eq.trans (b := rms z g (ix3 b n e) * (1 + sc (ix3 b 0 e)) + sh (ix3 b 0 e)) ?_ ?_
  · pointwise [modulated]
  · rw [rms_apply]
    rfl

/-- A number of the reference's first result. -/
theorem row_apply (b : Fin 4) (n : Fin 4096) (e : Fin 2048) :
    gated (product (joined oa ob oc) w) x p t (ix3 b n e) = row oa ob oc w x p t b n e := by
  rw [gated_apply, funext fun k => proj_apply oa ob oc w b n k]
  rfl

/-- An index by its three coordinates. -/
theorem split (y : S4x4096x2048.Idx) : y = ix3 (y 0) (y 1) (y 2) := by
  refine funext fun a => ?_
  fin_cases a <;> rfl

/-- The reference's first result, -/
theorem result_first : gated (product (joined oa ob oc) w) x p t = first oa ob oc w x p t := by
  funext y
  rw [split y]
  exact row_apply oa ob oc w x p t _ _ _

/-- and its second. -/
theorem result_second : modulated (gated (product (joined oa ob oc) w) x p t) g sh sc = second oa ob oc w x p t g sh sc := by
  funext y
  rw [split y]
  refine (modulated_apply g sh sc _ (y 0) (y 1) (y 2)).trans ?_
  rw [funext fun k => row_apply oa ob oc w x p t (y 0) (y 1) k]
  rfl

end Cert.Reference4Ideal.Out

namespace Cert.Out

open Idealize.ShloMosaic Idealize.ShloMosaic.TcCoe

/-- The two programs end with equal results. -/
theorem algebraic : Cert.algebraic_Kernel4Ideal_Reference4Ideal := by
  pair_intro
  · run_from Cert.Kernel4Ideal.Value.run_blocks m g
  · run_from Cert.Reference4Ideal.Value.run m' g'
    · refine (Cert.Reference4Ideal.Out.result_first _ _ _ _ _ _ _).trans ?_
      exact (Cert.Kernel4Ideal.Out.final_first m c).symm
    · refine (Cert.Reference4Ideal.Out.result_second _ _ _ _ _ _ _ _ _ _).trans ?_
      obtain ⟨a0, a1, a2, a3, a4, a5, a6, a7, a8, a9⟩ := hagree c
      rw [a0, a1, a2, a3, a4, a5, a6, a7, a8, a9]
      exact (Cert.Kernel4Ideal.Out.final_second m c).symm

/-- The reference runs, leaves its arguments unchanged and has no semaphore. -/
theorem frame_reference : Cert.quiescent_Reference4Ideal := fun m g _ =>
  (θ_run Cert.Reference4Ideal.defs _ _).mono (fun r h => ⟨fun c => (h c).2.2, sem_eq_zero_of_no_sems (by decide) r.2⟩)
    (Cert.Reference4Ideal.Value.run m g)

end Cert.Out

end

end
-- ==== Proof.lean ====
/- The certificate's claims, put together. -/
module

public import proofs.«01_k».proof.Defs
public import proofs.«01_k».proof.Proof.ExpertClaims
public import proofs.«01_k».proof.Proof.DenseClaims
public import proofs.«01_k».proof.Proof.Gen.Kernel2.Frame
public import proofs.«01_k».proof.Proof.GqaClaims
public import proofs.«01_k».proof.Proof.Gen.Kernel3.Frame
public import proofs.«01_k».proof.Proof.Gen.Kernel4.Frame
public import proofs.«01_k».proof.Proof.OutClaims
public import proofs.«01_k».proof.Proof.Gen.Kernel2Ideal.Frame

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_routed.Gen.facts, Cert.Pre_finite.Gen.facts,
    Cert.Expert.frame_kernel,
    Cert.Expert.frame_ideal,
    Cert.Expert.frame_reference,
    Cert.Expert.frame_reference_routed,
    fun m g _ => Cert.Kernel2.Gen.frame m g,
    fun m g _ => Cert.Kernel2Ideal.Gen.frame m g,
    Cert.Dense.frame_reference,
    fun m g _ => Cert.Kernel3.Gen.frame m g,
    fun m g _ => Cert.Kernel3Ideal.Gen.frame m g,
    fun m g _ => Cert.Kernel3Ideal.Gen.frame m g,
    Cert.Gqa.frame_reference,
    Cert.Gqa.frame_reference_finite,
    fun m g _ => Cert.Kernel4.Gen.frame m g,
    fun m g _ => Cert.Kernel4Ideal.Gen.frame m g,
    Cert.Out.frame_reference,
    trivial,
    Cert.Expert.algebraic,
    trivial,
    Cert.Dense.algebraic,
    Cert.Gqa.preserves,
    Cert.Gqa.algebraic,
    trivial,
    Cert.Out.algebraic⟩

end Cert.Proof

end
